-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separable [hPre_separable : Cert.Pre_separable.Facts] (m : (ℓ : Loc Cert.KernelIdeal.nD Cert.KernelIdeal.τ Cert.KernelIdeal.sig) → Buf (Elt Ideal) ℓ) : Prop :=
  ∀ c : Dev Cert.KernelIdeal.nD,
    (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separable [hPre_separable : Cert.Pre_separable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separable [hKernelIdeal : Cert.KernelIdeal.Facts] [hPre_separable : Cert.Pre_separable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separable [hReferenceIdeal : Cert.ReferenceIdeal.Facts] [hPre_separable : Cert.Pre_separable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separable [hKernelIdeal : Cert.KernelIdeal.Facts] [hReferenceIdeal : Cert.ReferenceIdeal.Facts] [hPre_separable : Cert.Pre_separable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separable : Cert.Pre_separable.Facts),
    quiescent_Kernel (hKernel := hKernel)
    ∧ quiescent_KernelIdeal (hKernelIdeal := hKernelIdeal)
    ∧ quiescent_KernelIdeal_pre_separable (hKernelIdeal := hKernelIdeal) (hPre_separable := hPre_separable)
    ∧ quiescent_ReferenceIdeal (hReferenceIdeal := hReferenceIdeal)
    ∧ quiescent_ReferenceIdeal_pre_separable (hReferenceIdeal := hReferenceIdeal) (hPre_separable := hPre_separable)
    ∧ preserves_Kernel_KernelIdeal
    ∧ algebraic_KernelIdeal_ReferenceIdeal_pre_separable (hKernelIdeal := hKernelIdeal) (hReferenceIdeal := hReferenceIdeal) (hPre_separable := hPre_separable)
-- ==== Pre_separable.lean ====
abbrev S4x5x512x512 : Shape := ⟨4, ![4, 5, 512, 512]⟩
abbrev S1x5x9x9x9x9x9 : Shape := ⟨7, ![1, 5, 9, 9, 9, 9, 9]⟩
abbrev S5x9x9x9x9x9 : Shape := ⟨6, ![5, 9, 9, 9, 9, 9]⟩
abbrev S1x9x1x1x1x1 : Shape := ⟨6, ![1, 9, 1, 1, 1, 1]⟩
abbrev S9x1x1x1x1 : Shape := ⟨5, ![9, 1, 1, 1, 1]⟩
abbrev S9x9x9x9x9 : Shape := ⟨5, ![9, 9, 9, 9, 9]⟩
abbrev S1x1x9x1x1x1 : Shape := ⟨6, ![1, 1, 9, 1, 1, 1]⟩
abbrev S1x9x1x1x1 : Shape := ⟨5, ![1, 9, 1, 1, 1]⟩
abbrev S1x1x1x9x1x1 : Shape := ⟨6, ![1, 1, 1, 9, 1, 1]⟩
abbrev S1x1x9x1x1 : Shape := ⟨5, ![1, 1, 9, 1, 1]⟩
abbrev S1x1x1x1x9x1 : Shape := ⟨6, ![1, 1, 1, 1, 9, 1]⟩
abbrev S1x1x1x9x1 : Shape := ⟨5, ![1, 1, 1, 9, 1]⟩
abbrev S1x1x1x1x1x9 : Shape := ⟨6, ![1, 1, 1, 1, 1, 9]⟩
abbrev S1x1x1x1x9 : Shape := ⟨5, ![1, 1, 1, 1, 9]⟩
abbrev S1x9x9x9x9x9 : Shape := ⟨6, ![1, 9, 9, 9, 9, 9]⟩
abbrev S_ : Shape := ⟨0, ![]⟩

class Facts : Prop where
  shapeCasts_S1x5x9x9x9x9x9_S5x9x9x9x9x9 : S1x5x9x9x9x9x9.ShapeCasts S5x9x9x9x9x9
  slices_S5x9x9x9x9x9_S1x9x1x1x1x1_0_0_0_0_0_0 : S5x9x9x9x9x9.Slices ![0, 0, 0, 0, 0, 0] S1x9x1x1x1x1
  shapeCasts_S1x9x1x1x1x1_S9x1x1x1x1 : S1x9x1x1x1x1.ShapeCasts S9x1x1x1x1
  bcast_S9x1x1x1x1_S9x9x9x9x9_0_1_2_3_4 : S9x1x1x1x1.BroadcastsInDim S9x9x9x9x9 (![0, 1, 2, 3, 4] : Fin 5 → Fin S9x9x9x9x9.rank)
  slices_S5x9x9x9x9x9_S1x1x9x1x1x1_1_0_0_0_0_0 : S5x9x9x9x9x9.Slices ![1, 0, 0, 0, 0, 0] S1x1x9x1x1x1
  shapeCasts_S1x1x9x1x1x1_S1x9x1x1x1 : S1x1x9x1x1x1.ShapeCasts S1x9x1x1x1
  bcast_S1x9x1x1x1_S9x9x9x9x9_0_1_2_3_4 : S1x9x1x1x1.BroadcastsInDim S9x9x9x9x9 (![0, 1, 2, 3, 4] : Fin 5 → Fin S9x9x9x9x9.rank)
  slices_S5x9x9x9x9x9_S1x1x1x9x1x1_2_0_0_0_0_0 : S5x9x9x9x9x9.Slices ![2, 0, 0, 0, 0, 0] S1x1x1x9x1x1
  shapeCasts_S1x1x1x9x1x1_S1x1x9x1x1 : S1x1x1x9x1x1.ShapeCasts S1x1x9x1x1
  bcast_S1x1x9x1x1_S9x9x9x9x9_0_1_2_3_4 : S1x1x9x1x1.BroadcastsInDim S9x9x9x9x9 (![0, 1, 2, 3, 4] : Fin 5 → Fin S9x9x9x9x9.rank)
  slices_S5x9x9x9x9x9_S1x1x1x1x9x1_3_0_0_0_0_0 : S5x9x9x9x9x9.Slices ![3, 0, 0, 0, 0, 0] S1x1x1x1x9x1
  shapeCasts_S1x1x1x1x9x1_S1x1x1x9x1 : S1x1x1x1x9x1.ShapeCasts S1x1x1x9x1
  bcast_S1x1x1x9x1_S9x9x9x9x9_0_1_2_3_4 : S1x1x1x9x1.BroadcastsInDim S9x9x9x9x9 (![0, 1, 2, 3, 4] : Fin 5 → Fin S9x9x9x9x9.rank)
  slices_S5x9x9x9x9x9_S1x1x1x1x1x9_4_0_0_0_0_0 : S5x9x9x9x9x9.Slices ![4, 0, 0, 0, 0, 0] S1x1x1x1x1x9
  shapeCasts_S1x1x1x1x1x9_S1x1x1x1x9 : S1x1x1x1x1x9.ShapeCasts S1x1x1x1x9
  bcast_S1x1x1x1x9_S9x9x9x9x9_0_1_2_3_4 : S1x1x1x1x9.BroadcastsInDim S9x9x9x9x9 (![0, 1, 2, 3, 4] : Fin 5 → Fin S9x9x9x9x9.rank)
  bcast_S9x9x9x9x9_S1x9x9x9x9x9_1_2_3_4_5 : S9x9x9x9x9.BroadcastsInDim S1x9x9x9x9x9 (![1, 2, 3, 4, 5] : Fin 5 → Fin S1x9x9x9x9x9.rank)
  concatenates_S1x9x9x9x9x9_S1x9x9x9x9x9_S1x9x9x9x9x9_S1x9x9x9x9x9_S1x9x9x9x9x9_S5x9x9x9x9x9_d0 : Shape.Concatenates [S1x9x9x9x9x9, S1x9x9x9x9x9, S1x9x9x9x9x9, S1x9x9x9x9x9, S1x9x9x9x9x9] S5x9x9x9x9x9 0
  bcast_S_S5x9x9x9x9x9 : S_.BroadcastsInDim S5x9x9x9x9x9 (![] : Fin 0 → Fin S5x9x9x9x9x9.rank)

variable [Facts]

def fn_part1 {F : FTy → Type} [FloatOps F] (main_v22 : IVec S5x9x9x9x9x9 1) (main_v23 : FVec F S5x9x9x9x9x9 .f32) : IVec S5x9x9x9x9x9 1 :=
  let main_cst : FVec F S_ .f32 := constant S_ .f32 0x7F800000#32
  let main_v24 : FVec F S5x9x9x9x9x9 .f32 := broadcastInDim S5x9x9x9x9x9 ![] bcast_S_S5x9x9x9x9x9 main_cst
  let main_v25 : IVec S5x9x9x9x9x9 1 := cmpf .olt main_v23 main_v24
  let main_v26 : IVec S5x9x9x9x9x9 1 := andi main_v22 main_v25
  main_v26

def fn {F : FTy → Type} [FloatOps F] (main_arg0 : FVec F S4x5x512x512 .f32) (main_arg1 : FVec F S1x5x9x9x9x9x9 .f32) : IVec S5x9x9x9x9x9 1 :=
  let main_v0 : FVec F S5x9x9x9x9x9 .f32 := shapeCast S5x9x9x9x9x9 main_arg1 shapeCasts_S1x5x9x9x9x9x9_S5x9x9x9x9x9
  let main_v1 : FVec F S1x9x1x1x1x1 .f32 := (extractStridedSlice S1x9x1x1x1x1 ![0, 0, 0, 0, 0, 0] · slices_S5x9x9x9x9x9_S1x9x1x1x1x1_0_0_0_0_0_0) main_v0
  let main_v2 : FVec F S9x1x1x1x1 .f32 := shapeCast S9x1x1x1x1 main_v1 shapeCasts_S1x9x1x1x1x1_S9x1x1x1x1
  let main_v3 : FVec F S9x9x9x9x9 .f32 := broadcastInDim S9x9x9x9x9 ![0, 1, 2, 3, 4] bcast_S9x1x1x1x1_S9x9x9x9x9_0_1_2_3_4 main_v2
  let main_v4 : FVec F S1x1x9x1x1x1 .f32 := (extractStridedSlice S1x1x9x1x1x1 ![1, 0, 0, 0, 0, 0] · slices_S5x9x9x9x9x9_S1x1x9x1x1x1_1_0_0_0_0_0) main_v0
  let main_v5 : FVec F S1x9x1x1x1 .f32 := shapeCast S1x9x1x1x1 main_v4 shapeCasts_S1x1x9x1x1x1_S1x9x1x1x1
  let main_v6 : FVec F S9x9x9x9x9 .f32 := broadcastInDim S9x9x9x9x9 ![0, 1, 2, 3, 4] bcast_S1x9x1x1x1_S9x9x9x9x9_0_1_2_3_4 main_v5
  let main_v7 : FVec F S1x1x1x9x1x1 .f32 := (extractStridedSlice S1x1x1x9x1x1 ![2, 0, 0, 0, 0, 0] · slices_S5x9x9x9x9x9_S1x1x1x9x1x1_2_0_0_0_0_0) main_v0
  let main_v8 : FVec F S1x1x9x1x1 .f32 := shapeCast S1x1x9x1x1 main_v7 shapeCasts_S1x1x1x9x1x1_S1x1x9x1x1
  let main_v9 : FVec F S9x9x9x9x9 .f32 := broadcastInDim S9x9x9x9x9 ![0, 1, 2, 3, 4] bcast_S1x1x9x1x1_S9x9x9x9x9_0_1_2_3_4 main_v8
  let main_v10 : FVec F S1x1x1x1x9x1 .f32 := (extractStridedSlice S1x1x1x1x9x1 ![3, 0, 0, 0, 0, 0] · slices_S5x9x9x9x9x9_S1x1x1x1x9x1_3_0_0_0_0_0) main_v0
  let main_v11 : FVec F S1x1x1x9x1 .f32 := shapeCast S1x1x1x9x1 main_v10 shapeCasts_S1x1x1x1x9x1_S1x1x1x9x1
  let main_v12 : FVec F S9x9x9x9x9 .f32 := broadcastInDim S9x9x9x9x9 ![0, 1, 2, 3, 4] bcast_S1x1x1x9x1_S9x9x9x9x9_0_1_2_3_4 main_v11
  let main_v13 : FVec F S1x1x1x1x1x9 .f32 := (extractStridedSlice S1x1x1x1x1x9 ![4, 0, 0, 0, 0, 0] · slices_S5x9x9x9x9x9_S1x1x1x1x1x9_4_0_0_0_0_0) main_v0
  let main_v14 : FVec F S1x1x1x1x9 .f32 := shapeCast S1x1x1x1x9 main_v13 shapeCasts_S1x1x1x1x1x9_S1x1x1x1x9
  let main_v15 : FVec F S9x9x9x9x9 .f32 := broadcastInDim S9x9x9x9x9 ![0, 1, 2, 3, 4] bcast_S1x1x1x1x9_S9x9x9x9x9_0_1_2_3_4 main_v14
  let main_v16 : FVec F S1x9x9x9x9x9 .f32 := broadcastInDim S1x9x9x9x9x9 ![1, 2, 3, 4, 5] bcast_S9x9x9x9x9_S1x9x9x9x9x9_1_2_3_4_5 main_v3
  let main_v17 : FVec F S1x9x9x9x9x9 .f32 := broadcastInDim S1x9x9x9x9x9 ![1, 2, 3, 4, 5] bcast_S9x9x9x9x9_S1x9x9x9x9x9_1_2_3_4_5 main_v6
  let main_v18 : FVec F S1x9x9x9x9x9 .f32 := broadcastInDim S1x9x9x9x9x9 ![1, 2, 3, 4, 5] bcast_S9x9x9x9x9_S1x9x9x9x9x9_1_2_3_4_5 main_v9
  let main_v19 : FVec F S1x9x9x9x9x9 .f32 := broadcastInDim S1x9x9x9x9x9 ![1, 2, 3, 4, 5] bcast_S9x9x9x9x9_S1x9x9x9x9x9_1_2_3_4_5 main_v12
  let main_v20 : FVec F S1x9x9x9x9x9 .f32 := broadcastInDim S1x9x9x9x9x9 ![1, 2, 3, 4, 5] bcast_S9x9x9x9x9_S1x9x9x9x9x9_1_2_3_4_5 main_v15
  let main_v21 : FVec F S5x9x9x9x9x9 .f32 := concatenate S5x9x9x9x9x9 0 [⟨S1x9x9x9x9x9, main_v16⟩, ⟨S1x9x9x9x9x9, main_v17⟩, ⟨S1x9x9x9x9x9, main_v18⟩, ⟨S1x9x9x9x9x9, main_v19⟩, ⟨S1x9x9x9x9x9, main_v20⟩] concatenates_S1x9x9x9x9x9_S1x9x9x9x9x9_S1x9x9x9x9x9_S1x9x9x9x9x9_S1x9x9x9x9x9_S5x9x9x9x9x9_d0
  let main_v22 : IVec S5x9x9x9x9x9 1 := cmpf .oeq main_v0 main_v21
  let main_v23 : FVec F S5x9x9x9x9x9 .f32 := Host.absf main_v0
  fn_part1 (F := F) main_v22 main_v23
-- ==== Kernel.lean ====
abbrev S4x5x512x512 : Shape := ⟨4, ![4, 5, 512, 512]⟩
abbrev S1x5x9x9x9x9x9 : Shape := ⟨7, ![1, 5, 9, 9, 9, 9, 9]⟩
abbrev S5x9x9x9x9x9 : Shape := ⟨6, ![5, 9, 9, 9, 9, 9]⟩
abbrev S1x9x1x1x1x1 : Shape := ⟨6, ![1, 9, 1, 1, 1, 1]⟩
abbrev S9 : Shape := ⟨1, ![9]⟩
abbrev S1x1x9x1x1x1 : Shape := ⟨6, ![1, 1, 9, 1, 1, 1]⟩
abbrev S1x1x1x9x1x1 : Shape := ⟨6, ![1, 1, 1, 9, 1, 1]⟩
abbrev S1x1x1x1x9x1 : Shape := ⟨6, ![1, 1, 1, 1, 9, 1]⟩
abbrev S1x1x1x1x1x9 : Shape := ⟨6, ![1, 1, 1, 1, 1, 9]⟩
abbrev S1x9 : Shape := ⟨2, ![1, 9]⟩
abbrev S5x9 : Shape := ⟨2, ![5, 9]⟩
abbrev S4x1x512x512 : Shape := ⟨4, ![4, 1, 512, 512]⟩
abbrev S1x1 : Shape := ⟨2, ![1, 1]⟩

abbrev nBuf : Space → Nat
  | .hbm => 20
  | .vmem => 4
  | .smem => 1
  | _ => 0

abbrev bufTy : (tb : Table) → Fin (tcTables nBuf tb) → BufTy
  | .hbm, ⟨0, _⟩ => ⟨S4x5x512x512, .f32⟩
  | .hbm, ⟨1, _⟩ => ⟨S1x5x9x9x9x9x9, .f32⟩
  | .hbm, ⟨2, _⟩ => ⟨S5x9x9x9x9x9, .f32⟩
  | .hbm, ⟨3, _⟩ => ⟨S1x9x1x1x1x1, .f32⟩
  | .hbm, ⟨4, _⟩ => ⟨S9, .f32⟩
  | .hbm, ⟨5, _⟩ => ⟨S1x1x9x1x1x1, .f32⟩
  | .hbm, ⟨6, _⟩ => ⟨S9, .f32⟩
  | .hbm, ⟨7, _⟩ => ⟨S1x1x1x9x1x1, .f32⟩
  | .hbm, ⟨8, _⟩ => ⟨S9, .f32⟩
  | .hbm, ⟨9, _⟩ => ⟨S1x1x1x1x9x1, .f32⟩
  | .hbm, ⟨10, _⟩ => ⟨S9, .f32⟩
  | .hbm, ⟨11, _⟩ => ⟨S1x1x1x1x1x9, .f32⟩
  | .hbm, ⟨12, _⟩ => ⟨S9, .f32⟩
  | .hbm, ⟨13, _⟩ => ⟨S1x9, .f32⟩
  | .hbm, ⟨14, _⟩ => ⟨S1x9, .f32⟩
  | .hbm, ⟨15, _⟩ => ⟨S1x9, .f32⟩
  | .hbm, ⟨16, _⟩ => ⟨S1x9, .f32⟩
  | .hbm, ⟨17, _⟩ => ⟨S1x9, .f32⟩
  | .hbm, ⟨18, _⟩ => ⟨S5x9, .f32⟩
  | .hbm, ⟨19, _⟩ => ⟨S4x5x512x512, .f32⟩
  | .local _ .vmem, ⟨0, _⟩ => ⟨S4x1x512x512, .f32⟩
  | .local _ .vmem, ⟨1, _⟩ => ⟨S4x1x512x512, .f32⟩
  | .local _ .vmem, ⟨2, _⟩ => ⟨S4x1x512x512, .f32⟩
  | .local _ .vmem, ⟨3, _⟩ => ⟨S4x1x512x512, .f32⟩
  | .local _ .smem, ⟨0, _⟩ => ⟨S5x9, .f32⟩
  | _, _ => ⟨S4x5x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_call0_v15 : Ref sig .tc := ⟨.hbm, 17, rfl⟩
abbrev main_call0_v16 : Ref sig .tc := ⟨.hbm, 18, rfl⟩
abbrev main_v0 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v1 : Index := Scalar.indexCast arg0
  let c0_3 : Index := 0#32
  ![v1.toNat, 0]
def k0_off2 (i : grid0.Coords) : Fin 2 → Nat :=
  let arg0 : BitVec 32 := BitVec.ofNat 32 (i 0).val
  let v3 : Index := Scalar.indexCast arg0
  let c1 : Index := 1#32
  ![v3.toNat, 1]
def k0_off3 (i : grid0.Coords) : Fin 2 → Nat :=
  let arg0 : BitVec 32 := BitVec.ofNat 32 (i 0).val
  let v10 : Index := Scalar.indexCast arg0
  let c2 : Index := 2#32
  ![v10.toNat, 2]
def k0_off4 (i : grid0.Coords) : Fin 2 → Nat :=
  let arg0 : BitVec 32 := BitVec.ofNat 32 (i 0).val
  let v17 : Index := Scalar.indexCast arg0
  let c3 : Index := 3#32
  ![v17.toNat, 3]
def k0_off5 (i : grid0.Coords) : Fin 2 → Nat :=
  let arg0 : BitVec 32 := BitVec.ofNat 32 (i 0).val
  let v24 : Index := Scalar.indexCast arg0
  let c4 : Index := 4#32
  ![v24.toNat, 4]
def k0_off6 (i : grid0.Coords) : Fin 2 → Nat :=
  let arg0 : BitVec 32 := BitVec.ofNat 32 (i 0).val
  let v31 : Index := Scalar.indexCast arg0
  let c5 : Index := 5#32
  ![v31.toNat, 5]
def k0_off7 (i : grid0.Coords) : Fin 2 → Nat :=
  let arg0 : BitVec 32 := BitVec.ofNat 32 (i 0).val
  let v38 : Index := Scalar.indexCast arg0
  let c6 : Index := 6#32
  ![v38.toNat, 6]
def k0_off8 (i : grid0.Coords) : Fin 2 → Nat :=
  let arg0 : BitVec 32 := BitVec.ofNat 32 (i 0).val
  let v45 : Index := Scalar.indexCast arg0
  let c7 : Index := 7#32
  ![v45.toNat, 7]
def k0_off9 (i : grid0.Coords) : Fin 2 → Nat :=
  let arg0 : BitVec 32 := BitVec.ofNat 32 (i 0).val
  let v52 : Index := Scalar.indexCast arg0
  let c8 : Index := 8#32
  ![v52.toNat, 8]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S5x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x5x512x512 : Shape := ⟨4, ![4, 5, 512, 512]⟩
abbrev S1x5x9x9x9x9x9 : Shape := ⟨7, ![1, 5, 9, 9, 9, 9, 9]⟩
abbrev S_ : Shape := ⟨0, ![]⟩
abbrev S5x9x9x9x9x9 : Shape := ⟨6, ![5, 9, 9, 9, 9, 9]⟩
abbrev S4x1x512x512 : Shape := ⟨4, ![4, 1, 512, 512]⟩
abbrev S4x512x512 : Shape := ⟨3, ![4, 512, 512]⟩
abbrev S32 : Shape := ⟨1, ![32]⟩
abbrev S32x1x1x1 : Shape := ⟨4, ![32, 1, 1, 1]⟩
abbrev S1x4x512x512 : Shape := ⟨4, ![1, 4, 512, 512]⟩
abbrev S32x4x512x512 : Shape := ⟨4, ![32, 4, 512, 512]⟩
abbrev S32x4x512x512x1 : Shape := ⟨5, ![32, 4, 512, 512, 1]⟩
abbrev S32x4x512x512x5 : Shape := ⟨5, ![32, 4, 512, 512, 5]⟩
abbrev S5x32x4x512x512 : Shape := ⟨5, ![5, 32, 4, 512, 512]⟩
abbrev S1x32x4x512x512 : Shape := ⟨5, ![1, 32, 4, 512, 512]⟩
abbrev S5x4x512x512 : Shape := ⟨4, ![5, 4, 512, 512]⟩

abbrev nBuf : Space → Nat
  | .hbm => 203
  | .vmem => 0
  | .smem => 0
  | _ => 0

abbrev hbmTy0_0 (i : Nat) : BufTy := match i % 128 with
  | 0 => ⟨S4x5x512x512, .f32⟩
  | 1 => ⟨S1x5x9x9x9x9x9, .f32⟩
  | 2 => ⟨S_, .f32⟩
  | 3 => ⟨S_, .f32⟩
  | 4 => ⟨S_, .f32⟩
  | 5 => ⟨S4x5x512x512, .f32⟩
  | 6 => ⟨S4x5x512x512, .f32⟩
  | 7 => ⟨S_, .f32⟩
  | 8 => ⟨S4x5x512x512, .f32⟩
  | 9 => ⟨S4x5x512x512, .f32⟩
  | 10 => ⟨S_, .f32⟩
  | 11 => ⟨S4x5x512x512, .f32⟩
  | 12 => ⟨S4x5x512x512, .f32⟩
  | 13 => ⟨S4x5x512x512, .f32⟩
  | 14 => ⟨S4x5x512x512, .i32⟩
  | 15 => ⟨S_, .i32⟩
  | 16 => ⟨S_, .i32⟩
  | 17 => ⟨S_, .i32⟩
  | 18 => ⟨S4x5x512x512, .i32⟩
  | 19 => ⟨S4x5x512x512, .i32⟩
  | 20 => ⟨S_, .i32⟩
  | 21 => ⟨S4x5x512x512, .i32⟩
  | 22 => ⟨S4x5x512x512, .i32⟩
  | 23 => ⟨S4x5x512x512, .f32⟩
  | 24 => ⟨S4x5x512x512, .f32⟩
  | 25 => ⟨S5x9x9x9x9x9, .f32⟩
  | 26 => ⟨S4x1x512x512, .i32⟩
  | 27 => ⟨S4x512x512, .i32⟩
  | 28 => ⟨S4x1x512x512, .i32⟩
  | 29 => ⟨S4x512x512, .i32⟩
  | 30 => ⟨S4x1x512x512, .i32⟩
  | 31 => ⟨S4x512x512, .i32⟩
  | 32 => ⟨S4x1x512x512, .i32⟩
  | 33 => ⟨S4x512x512, .i32⟩
  | 34 => ⟨S4x1x512x512, .i32⟩
  | 35 => ⟨S4x512x512, .i32⟩
  | 36 => ⟨S4x1x512x512, .f32⟩
  | 37 => ⟨S4x512x512, .f32⟩
  | 38 => ⟨S4x1x512x512, .f32⟩
  | 39 => ⟨S4x512x512, .f32⟩
  | 40 => ⟨S4x1x512x512, .f32⟩
  | 41 => ⟨S4x512x512, .f32⟩
  | 42 => ⟨S4x1x512x512, .f32⟩
  | 43 => ⟨S4x512x512, .f32⟩
  | 44 => ⟨S4x1x512x512, .f32⟩
  | 45 => ⟨S4x512x512, .f32⟩
  | 46 => ⟨S32, .i32⟩
  | 47 => ⟨S32x1x1x1, .i32⟩
  | 48 => ⟨S_, .i32⟩
  | 49 => ⟨S32x1x1x1, .i32⟩
  | 50 => ⟨S32x1x1x1, .i32⟩
  | 51 => ⟨S_, .i32⟩
  | 52 => ⟨S32x1x1x1, .i32⟩
  | 53 => ⟨S32x1x1x1, .i32⟩
  | 54 => ⟨S_, .i32⟩
  | 55 => ⟨S32x1x1x1, .i32⟩
  | 56 => ⟨S32x1x1x1, .i32⟩
  | 57 => ⟨S_, .i32⟩
  | 58 => ⟨S32x1x1x1, .i32⟩
  | 59 => ⟨S32x1x1x1, .i32⟩
  | 60 => ⟨S_, .i32⟩
  | 61 => ⟨S32x1x1x1, .i32⟩
  | 62 => ⟨S32x1x1x1, .i32⟩
  | 63 => ⟨S_, .i32⟩
  | 64 => ⟨S32x1x1x1, .i32⟩
  | 65 => ⟨S32x1x1x1, .i32⟩
  | 66 => ⟨S_, .i32⟩
  | 67 => ⟨S32x1x1x1, .i32⟩
  | 68 => ⟨S32x1x1x1, .i32⟩
  | 69 => ⟨S_, .i32⟩
  | 70 => ⟨S32x1x1x1, .i32⟩
  | 71 => ⟨S32x1x1x1, .i32⟩
  | 72 => ⟨S_, .i32⟩
  | 73 => ⟨S32x1x1x1, .i32⟩
  | 74 => ⟨S32x1x1x1, .i32⟩
  | 75 => ⟨S_, .i32⟩
  | 76 => ⟨S32x1x1x1, .i32⟩
  | 77 => ⟨S32x1x1x1, .i32⟩
  | 78 => ⟨S1x4x512x512, .i32⟩
  | 79 => ⟨S32x4x512x512, .i32⟩
  | 80 => ⟨S32x4x512x512, .i32⟩
  | 81 => ⟨S32x4x512x512, .i32⟩
  | 82 => ⟨S1x4x512x512, .i32⟩
  | 83 => ⟨S32x4x512x512, .i32⟩
  | 84 => ⟨S32x4x512x512, .i32⟩
  | 85 => ⟨S32x4x512x512, .i32⟩
  | 86 => ⟨S1x4x512x512, .i32⟩
  | 87 => ⟨S32x4x512x512, .i32⟩
  | 88 => ⟨S32x4x512x512, .i32⟩
  | 89 => ⟨S32x4x512x512, .i32⟩
  | 90 => ⟨S1x4x512x512, .i32⟩
  | 91 => ⟨S32x4x512x512, .i32⟩
  | 92 => ⟨S32x4x512x512, .i32⟩
  | 93 => ⟨S32x4x512x512, .i32⟩
  | 94 => ⟨S1x4x512x512, .i32⟩
  | 95 => ⟨S32x4x512x512, .i32⟩
  | 96 => ⟨S32x4x512x512, .i32⟩
  | 97 => ⟨S32x4x512x512, .i32⟩
  | 98 => ⟨S_, .f32⟩
  | 99 => ⟨S32x4x512x512, .f32⟩
  | 100 => ⟨S_, .i32⟩
  | 101 => ⟨S32x1x1x1, .i32⟩
  | 102 => ⟨S32x1x1x1, .i1⟩
  | 103 => ⟨S_, .f32⟩
  | 104 => ⟨S4x512x512, .f32⟩
  | 105 => ⟨S4x512x512, .f32⟩
  | 106 => ⟨S32x4x512x512, .i1⟩
  | 107 => ⟨S32x4x512x512, .f32⟩
  | 108 => ⟨S32x4x512x512, .f32⟩
  | 109 => ⟨S32x4x512x512, .f32⟩
  | 110 => ⟨S32x4x512x512, .f32⟩
  | 111 => ⟨S_, .i32⟩
  | 112 => ⟨S32x1x1x1, .i32⟩
  | 113 => ⟨S32x1x1x1, .i1⟩
  | 114 => ⟨S_, .f32⟩
  | 115 => ⟨S4x512x512, .f32⟩
  | 116 => ⟨S4x512x512, .f32⟩
  | 117 => ⟨S32x4x512x512, .i1⟩
  | 118 => ⟨S32x4x512x512, .f32⟩
  | 119 => ⟨S32x4x512x512, .f32⟩
  | 120 => ⟨S32x4x512x512, .f32⟩
  | 121 => ⟨S32x4x512x512, .f32⟩
  | 122 => ⟨S_, .i32⟩
  | 123 => ⟨S32x1x1x1, .i32⟩
  | 124 => ⟨S32x1x1x1, .i1⟩
  | 125 => ⟨S_, .f32⟩
  | 126 => ⟨S4x512x512, .f32⟩
  | 127 => ⟨S4x512x512, .f32⟩
  | _ => ⟨S4x5x512x512, .f32⟩

abbrev hbmTy0_1 (i : Nat) : BufTy := match i % 128 with
  | 0 => ⟨S32x4x512x512, .i1⟩
  | 1 => ⟨S32x4x512x512, .f32⟩
  | 2 => ⟨S32x4x512x512, .f32⟩
  | 3 => ⟨S32x4x512x512, .f32⟩
  | 4 => ⟨S32x4x512x512, .f32⟩
  | 5 => ⟨S_, .i32⟩
  | 6 => ⟨S32x1x1x1, .i32⟩
  | 7 => ⟨S32x1x1x1, .i1⟩
  | 8 => ⟨S_, .f32⟩
  | 9 => ⟨S4x512x512, .f32⟩
  | 10 => ⟨S4x512x512, .f32⟩
  | 11 => ⟨S32x4x512x512, .i1⟩
  | 12 => ⟨S32x4x512x512, .f32⟩
  | 13 => ⟨S32x4x512x512, .f32⟩
  | 14 => ⟨S32x4x512x512, .f32⟩
  | 15 => ⟨S32x4x512x512, .f32⟩
  | 16 => ⟨S_, .i32⟩
  | 17 => ⟨S32x1x1x1, .i32⟩
  | 18 => ⟨S32x1x1x1, .i1⟩
  | 19 => ⟨S_, .f32⟩
  | 20 => ⟨S4x512x512, .f32⟩
  | 21 => ⟨S4x512x512, .f32⟩
  | 22 => ⟨S32x4x512x512, .i1⟩
  | 23 => ⟨S32x4x512x512, .f32⟩
  | 24 => ⟨S32x4x512x512, .f32⟩
  | 25 => ⟨S32x4x512x512, .f32⟩
  | 26 => ⟨S32x4x512x512, .f32⟩
  | 27 => ⟨S_, .i32⟩
  | 28 => ⟨S32x4x512x512, .i32⟩
  | 29 => ⟨S32x4x512x512, .i1⟩
  | 30 => ⟨S_, .i32⟩
  | 31 => ⟨S32x4x512x512, .i32⟩
  | 32 => ⟨S32x4x512x512, .i32⟩
  | 33 => ⟨S32x4x512x512, .i32⟩
  | 34 => ⟨S_, .i32⟩
  | 35 => ⟨S32x4x512x512, .i32⟩
  | 36 => ⟨S32x4x512x512, .i1⟩
  | 37 => ⟨S_, .i32⟩
  | 38 => ⟨S32x4x512x512, .i32⟩
  | 39 => ⟨S32x4x512x512, .i32⟩
  | 40 => ⟨S32x4x512x512, .i32⟩
  | 41 => ⟨S_, .i32⟩
  | 42 => ⟨S32x4x512x512, .i32⟩
  | 43 => ⟨S32x4x512x512, .i1⟩
  | 44 => ⟨S_, .i32⟩
  | 45 => ⟨S32x4x512x512, .i32⟩
  | 46 => ⟨S32x4x512x512, .i32⟩
  | 47 => ⟨S32x4x512x512, .i32⟩
  | 48 => ⟨S_, .i32⟩
  | 49 => ⟨S32x4x512x512, .i32⟩
  | 50 => ⟨S32x4x512x512, .i1⟩
  | 51 => ⟨S_, .i32⟩
  | 52 => ⟨S32x4x512x512, .i32⟩
  | 53 => ⟨S32x4x512x512, .i32⟩
  | 54 => ⟨S32x4x512x512, .i32⟩
  | 55 => ⟨S_, .i32⟩
  | 56 => ⟨S32x4x512x512, .i32⟩
  | 57 => ⟨S32x4x512x512, .i1⟩
  | 58 => ⟨S_, .i32⟩
  | 59 => ⟨S32x4x512x512, .i32⟩
  | 60 => ⟨S32x4x512x512, .i32⟩
  | 61 => ⟨S32x4x512x512, .i32⟩
  | 62 => ⟨S32x4x512x512x1, .i32⟩
  | 63 => ⟨S32x4x512x512x1, .i32⟩
  | 64 => ⟨S32x4x512x512x1, .i32⟩
  | 65 => ⟨S32x4x512x512x1, .i32⟩
  | 66 => ⟨S32x4x512x512x1, .i32⟩
  | 67 => ⟨S32x4x512x512x5, .i32⟩
  | 68 => ⟨S5x32x4x512x512, .f32⟩
  | 69 => ⟨S1x32x4x512x512, .f32⟩
  | 70 => ⟨S5x32x4x512x512, .f32⟩
  | 71 => ⟨S5x32x4x512x512, .f32⟩
  | 72 => ⟨S_, .f32⟩
  | 73 => ⟨S5x4x512x512, .f32⟩
  | 74 => ⟨S4x5x512x512, .f32⟩
  | _ => ⟨S4x5x512x512, .f32⟩

abbrev hbmTy (i : Nat) : BufTy := match i / 128 with
  | 0 => hbmTy0_0 i
  | 1 => hbmTy0_1 i
  | _ => ⟨S4x5x512x512, .f32⟩

abbrev bufTy : (tb : Table) → Fin (tcTables nBuf tb) → BufTy
  | .hbm, ⟨i, _⟩ => hbmTy i
  | _, _ => ⟨S4x5x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v82 : Ref sig .tc := ⟨.hbm, 120, rfl⟩
abbrev main_v83 : Ref sig .tc := ⟨.hbm, 121, rfl⟩
abbrev main_c_18 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v88 : Ref sig .tc := ⟨.hbm, 131, rfl⟩
abbrev main_v89 : Ref sig .tc := ⟨.hbm, 132, rfl⟩
abbrev main_c_20 : Ref sig .tc := ⟨.hbm, 133, rfl⟩
abbrev main_v90 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_v93 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v94 : Ref sig .tc := ⟨.hbm, 142, rfl⟩
abbrev main_v95 : Ref sig .tc := ⟨.hbm, 143, rfl⟩
abbrev main_c_22 : Ref sig .tc := ⟨.hbm, 144, rfl⟩
abbrev main_v96 : Ref sig .tc := ⟨.hbm, 145, rfl⟩
abbrev main_v97 : Ref sig .tc := ⟨.hbm, 146, rfl⟩
abbrev main_cst_23 : Ref sig .tc := ⟨.hbm, 147, rfl⟩
abbrev main_v98 : Ref sig .tc := ⟨.hbm, 148, rfl⟩
abbrev main_v99 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_v100 : Ref sig .tc := ⟨.hbm, 153, rfl⟩
abbrev main_v101 : Ref sig .tc := ⟨.hbm, 154, rfl⟩
abbrev main_c_24 : Ref sig .tc := ⟨.hbm, 155, rfl⟩
abbrev main_v102 : Ref sig .tc := ⟨.hbm, 156, rfl⟩
abbrev main_v103 : Ref sig .tc := ⟨.hbm, 157, rfl⟩
abbrev main_c_25 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_26 : Ref sig .tc := ⟨.hbm, 162, rfl⟩
abbrev main_v107 : Ref sig .tc := ⟨.hbm, 163, rfl⟩
abbrev main_v108 : Ref sig .tc := ⟨.hbm, 164, rfl⟩
abbrev main_c_27 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_c_28 : Ref sig .tc := ⟨.hbm, 169, rfl⟩
abbrev main_v112 : Ref sig .tc := ⟨.hbm, 170, rfl⟩
abbrev main_v113 : Ref sig .tc := ⟨.hbm, 171, rfl⟩
abbrev main_c_29 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_c_30 : Ref sig .tc := ⟨.hbm, 176, rfl⟩
abbrev main_v117 : Ref sig .tc := ⟨.hbm, 177, rfl⟩
abbrev main_v118 : Ref sig .tc := ⟨.hbm, 178, rfl⟩
abbrev main_c_31 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_c_32 : Ref sig .tc := ⟨.hbm, 183, rfl⟩
abbrev main_v122 : Ref sig .tc := ⟨.hbm, 184, rfl⟩
abbrev main_v123 : Ref sig .tc := ⟨.hbm, 185, rfl⟩
abbrev main_c_33 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_34 : Ref sig .tc := ⟨.hbm, 200, rfl⟩
abbrev main_v137 : Ref sig .tc := ⟨.hbm, 201, rfl⟩
abbrev main_v138 : Ref sig .tc := ⟨.hbm, 202, rfl⟩

abbrev nD : Nat := 1
abbrev τ : Topo := Topo.v7x

variable {F : FTy → Type} [FloatOps F]
-- ==== Proof.Curve.lean ====
/-
  The piecewise-linear curve through nine table entries, over the extended reals: the form in which the kernel
  computes it (a constant and eight clipped ramps), the form in which the reference reads it (the two entries of a
  cell, weighted by the position in the cell), and the proof that they agree at every extended real when the entries
  are finite. Nothing here mentions a program.
-/
module

public import Idealize.ShloMosaic.Lib.Pointwise
public import Idealize.ShloMosaic.PureOps.Ideal.Laws

@[expose] public section

noncomputable section

namespace Cert.Curve

open Idealize.ShloMosaic

/-- The constants the two programs print, as the reals they denote. -/
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_four : Ideal.ofBits .f32 0x40800000#32 = ((4 : ℝ) : EReal) := by
  simp [Ideal.ofBits, Ideal.ieee, -EReal.coe_mul]; norm_num
theorem bits_five : Ideal.ofBits .f32 0x40A00000#32 = ((5 : ℝ) : EReal) := by
  simp [Ideal.ofBits, Ideal.ieee, -EReal.coe_mul]; norm_num
theorem bits_six : Ideal.ofBits .f32 0x40C00000#32 = ((6 : ℝ) : EReal) := by
  simp [Ideal.ofBits, Ideal.ieee, -EReal.coe_mul]; norm_num
theorem bits_seven : Ideal.ofBits .f32 0x40E00000#32 = ((7 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_e1 : Ideal.ofBits .f32 0x3E000000#32 = ((1 / 8 : ℝ) : EReal) := by
  simp [Ideal.ofBits, Ideal.ieee, -EReal.coe_mul]; norm_num
theorem bits_e2 : Ideal.ofBits .f32 0x3E800000#32 = ((2 / 8 : ℝ) : EReal) := by
  simp [Ideal.ofBits, Ideal.ieee, -EReal.coe_mul]; norm_num
theorem bits_e3 : Ideal.ofBits .f32 0x3EC00000#32 = ((3 / 8 : ℝ) : EReal) := by
  simp [Ideal.ofBits, Ideal.ieee, -EReal.coe_mul]; norm_num
theorem bits_e4 : Ideal.ofBits .f32 0x3F000000#32 = ((4 / 8 : ℝ) : EReal) := by
  simp [Ideal.ofBits, Ideal.ieee, -EReal.coe_mul]; norm_num
theorem bits_e5 : Ideal.ofBits .f32 0x3F200000#32 = ((5 / 8 : ℝ) : EReal) := by
  simp [Ideal.ofBits, Ideal.ieee, -EReal.coe_mul]; norm_num
theorem bits_e6 : Ideal.ofBits .f32 0x3F400000#32 = ((6 / 8 : ℝ) : EReal) := by
  simp [Ideal.ofBits, Ideal.ieee, -EReal.coe_mul]; norm_num
theorem bits_e7 : Ideal.ofBits .f32 0x3F600000#32 = ((7 / 8 : ℝ) : EReal) := by
  simp [Ideal.ofBits, Ideal.ieee, -EReal.coe_mul]; norm_num
theorem bits_top : Ideal.ofBits .f32 0x7F800000#32 = ⊤ := by
  simp [Ideal.ofBits, Ideal.ieee]

/-- A ramp's clip of an extended real to a segment. -/
def clip (a b : ℝ) (x : EReal) : EReal := min (b : EReal) (max (a : EReal) x)

/-- The curve as the kernel computes it: a constant, then one ramp per cell over the clipped position. -/
def ramps (t : Fin 9 → EReal) (x : EReal) : EReal :=
  (t 0 - (t 1 - t 0) * ((0 : ℝ) : EReal) - (t 2 - t 1) * ((1 : ℝ) : EReal) - (t 3 - t 2) * ((2 : ℝ) : EReal)
      - (t 4 - t 3) * ((3 : ℝ) : EReal) - (t 5 - t 4) * ((4 : ℝ) : EReal) - (t 6 - t 5) * ((5 : ℝ) : EReal)
      - (t 7 - t 6) * ((6 : ℝ) : EReal) - (t 8 - t 7) * ((7 : ℝ) : EReal))
    + (t 1 - t 0) * ((8 : ℝ) : EReal) * clip 0 (1 / 8) x
    + (t 2 - t 1) * ((8 : ℝ) : EReal) * clip (1 / 8) (2 / 8) x
    + (t 3 - t 2) * ((8 : ℝ) : EReal) * clip (2 / 8) (3 / 8) x
    + (t 4 - t 3) * ((8 : ℝ) : EReal) * clip (3 / 8) (4 / 8) x
    + (t 5 - t 4) * ((8 : ℝ) : EReal) * clip (4 / 8) (5 / 8) x
    + (t 6 - t 5) * ((8 : ℝ) : EReal) * clip (5 / 8) (6 / 8) x
    + (t 7 - t 6) * ((8 : ℝ) : EReal) * clip (6 / 8) (7 / 8) x
    + (t 8 - t 7) * ((8 : ℝ) : EReal) * clip (7 / 8) 1 x

/-- The real in `[0, 1]` an extended real is clipped to. -/
def unit (x : EReal) : ℝ := (clip 0 1 x).toReal

/-- Every clip inside `[0, 1]` of `x` is that of a real `r` in `[0, 1]`. -/
theorem exists_unit (x : EReal) : ∃ r : ℝ, 0 ≤ r ∧ r ≤ 1 ∧ ∀ a b : ℝ, 0 ≤ a → a ≤ b → b ≤ 1 →
    clip a b x = ((min b (max a r) : ℝ) : EReal) := by
  induction x using EReal.rec with
  | bot =>
    refine ⟨0, le_refl _, zero_le_one, fun a b ha hab hb => ?_⟩
    unfold clip
    rw [max_eq_left bot_le, max_eq_left ha, min_eq_right hab, min_eq_right (EReal.coe_le_coe_iff.2 hab)]
  | top =>
    refine ⟨1, zero_le_one, le_refl _, fun a b ha hab hb => ?_⟩
    unfold clip
    rw [max_eq_right le_top, min_eq_left le_top, max_eq_right (hab.trans hb), min_eq_left hb]
  | coe y =>
    refine ⟨min 1 (max 0 y), le_min zero_le_one (le_max_left _ _), min_le_left _ _, fun a b ha hab hb => ?_⟩
    unfold clip
    rw [← EReal.coe_strictMono.monotone.map_max, ← EReal.coe_strictMono.monotone.map_min]
    congr 1
    rcases le_total y 0 with h0 | h0
    · rw [max_eq_left h0, min_eq_right zero_le_one, max_eq_left ha, max_eq_left (h0.trans ha)]
    · rw [max_eq_right h0]
      rcases le_total y 1 with h1 | h1
      · rw [min_eq_right h1]
      · rw [min_eq_left h1, max_eq_right (hab.trans hb), max_eq_right ((hab.trans hb).trans h1), min_eq_left hb,
          min_eq_left (hb.trans h1)]

theorem clip_unit (x : EReal) : clip 0 1 x = (unit x : EReal) := by
  obtain ⟨r, h0, h1, h⟩ := exists_unit x
  unfold unit
  rw [h 0 1 le_rfl zero_le_one le_rfl, EReal.toReal_coe]

theorem unit_spec (x : EReal) : 0 ≤ unit x ∧ unit x ≤ 1 ∧ ∀ a b : ℝ, 0 ≤ a → a ≤ b → b ≤ 1 →
    clip a b x = ((min b (max a (unit x)) : ℝ) : EReal) := by
  obtain ⟨r, h0, h1, h⟩ := exists_unit x
  have hr : unit x = r := by
    unfold unit
    rw [h 0 1 le_rfl zero_le_one le_rfl, EReal.toReal_coe, max_eq_right h0, min_eq_right h1]
  rw [hr]
  exact ⟨h0, h1, h⟩

/-- The cell of the grid of nine entries that a position in `[0, 1]` lies in, the last one closed. -/
def cell (r : ℝ) : Fin 8 := ⟨min ⌊r * 8⌋₊ 7, by omega⟩

/-- The position inside the cell. -/
def pos (r : ℝ) : ℝ := r * 8 - ((cell r).val : ℝ)

/-- Where a position lies in its cell: at most one past its left end, and not before it. -/
theorem cell_bounds {r : ℝ} (h0 : 0 ≤ r) (h1 : r ≤ 1) : ((cell r).val : ℝ) ≤ r * 8 ∧ r * 8 ≤ ((cell r).val : ℝ) + 1 := by
  have hn : (0 : ℝ) ≤ r * 8 := by positivity
  have hf := Nat.floor_le hn
  have hl := Nat.lt_floor_add_one (r * 8)
  unfold cell
  rcases le_total ⌊r * 8⌋₊ 7 with h | h
  · simp only [min_eq_left h]; exact ⟨hf, hl.le⟩
  · simp only [min_eq_right h]
    refine ⟨le_trans (by exact_mod_cast h) hf, ?_⟩
    push_cast; linarith

/-- The curve as the reference reads it: the two entries of the position's cell, weighted. -/
def lerp (t : Fin 9 → ℝ) (r : ℝ) : ℝ := t (cell r).castSucc * (1 - pos r) + t (cell r).succ * pos r

/-- THE TWO FORMS AGREE at every extended real, for finite entries. -/
theorem ramps_eq_lerp (t : Fin 9 → ℝ) (x : EReal) :
    ramps (fun j => (t j : EReal)) x = ((lerp t (unit x) : ℝ) : EReal) := by
  obtain ⟨h0, h1, h⟩ := unit_spec x
  generalize unit x = r at *
  have hb := cell_bounds h0 h1
  unfold ramps
  rw [h 0 (1 / 8) (by norm_num) (by norm_num) (by norm_num), h (1 / 8) (2 / 8) (by norm_num) (by norm_num) (by norm_num),
    h (2 / 8) (3 / 8) (by norm_num) (by norm_num) (by norm_num), h (3 / 8) (4 / 8) (by norm_num) (by norm_num) (by norm_num),
    h (4 / 8) (5 / 8) (by norm_num) (by norm_num) (by norm_num), h (5 / 8) (6 / 8) (by norm_num) (by norm_num) (by norm_num),
    h (6 / 8) (7 / 8) (by norm_num) (by norm_num) (by norm_num), h (7 / 8) 1 (by norm_num) (by norm_num) (by norm_num)]
  simp only [← EReal.coe_sub, ← EReal.coe_mul, ← EReal.coe_add]
  congr 1
  unfold lerp pos
  have below : ∀ a b : ℝ, b ≤ r → a ≤ b → min b (max a r) = b := fun a b hbr hab => min_eq_left (hbr.trans (le_max_right _ _))
  have above : ∀ a b : ℝ, r ≤ a → a ≤ b → min b (max a r) = a := fun a b hra hab => by
    rw [max_eq_left hra, min_eq_right hab]
  have inside : ∀ a b : ℝ, a ≤ r → r ≤ b → min b (max a r) = r := fun a b har hrb => by
    rw [max_eq_right har, min_eq_right hrb]
  generalize cell r = k at *
  obtain ⟨k, hk⟩ := k
  obtain ⟨hl, hr⟩ := hb
  interval_cases k <;> norm_num at hl hr
  · rw [inside 0 (1 / 8) (by linarith) (by linarith),
      above (1 / 8) (2 / 8) (by linarith) (by linarith),
      above (2 / 8) (3 / 8) (by linarith) (by linarith),
      above (3 / 8) (4 / 8) (by linarith) (by linarith),
      above (4 / 8) (5 / 8) (by linarith) (by linarith),
      above (5 / 8) (6 / 8) (by linarith) (by linarith),
      above (6 / 8) (7 / 8) (by linarith) (by linarith),
      above (7 / 8) 1 (by linarith) (by linarith)]
    show _ = t 0 * (1 - (r * 8 - ((0 : ℕ) : ℝ))) + t 1 * (r * 8 - ((0 : ℕ) : ℝ))
    push_cast; ring
  · rw [below 0 (1 / 8) (by linarith) (by linarith),
      inside (1 / 8) (2 / 8) (by linarith) (by linarith),
      above (2 / 8) (3 / 8) (by linarith) (by linarith),
      above (3 / 8) (4 / 8) (by linarith) (by linarith),
      above (4 / 8) (5 / 8) (by linarith) (by linarith),
      above (5 / 8) (6 / 8) (by linarith) (by linarith),
      above (6 / 8) (7 / 8) (by linarith) (by linarith),
      above (7 / 8) 1 (by linarith) (by linarith)]
    show _ = t 1 * (1 - (r * 8 - ((1 : ℕ) : ℝ))) + t 2 * (r * 8 - ((1 : ℕ) : ℝ))
    push_cast; ring
  · rw [below 0 (1 / 8) (by linarith) (by linarith),
      below (1 / 8) (2 / 8) (by linarith) (by linarith),
      inside (2 / 8) (3 / 8) (by linarith) (by linarith),
      above (3 / 8) (4 / 8) (by linarith) (by linarith),
      above (4 / 8) (5 / 8) (by linarith) (by linarith),
      above (5 / 8) (6 / 8) (by linarith) (by linarith),
      above (6 / 8) (7 / 8) (by linarith) (by linarith),
      above (7 / 8) 1 (by linarith) (by linarith)]
    show _ = t 2 * (1 - (r * 8 - ((2 : ℕ) : ℝ))) + t 3 * (r * 8 - ((2 : ℕ) : ℝ))
    push_cast; ring
  · rw [below 0 (1 / 8) (by linarith) (by linarith),
      below (1 / 8) (2 / 8) (by linarith) (by linarith),
      below (2 / 8) (3 / 8) (by linarith) (by linarith),
      inside (3 / 8) (4 / 8) (by linarith) (by linarith),
      above (4 / 8) (5 / 8) (by linarith) (by linarith),
      above (5 / 8) (6 / 8) (by linarith) (by linarith),
      above (6 / 8) (7 / 8) (by linarith) (by linarith),
      above (7 / 8) 1 (by linarith) (by linarith)]
    show _ = t 3 * (1 - (r * 8 - ((3 : ℕ) : ℝ))) + t 4 * (r * 8 - ((3 : ℕ) : ℝ))
    push_cast; ring
  · rw [below 0 (1 / 8) (by linarith) (by linarith),
      below (1 / 8) (2 / 8) (by linarith) (by linarith),
      below (2 / 8) (3 / 8) (by linarith) (by linarith),
      below (3 / 8) (4 / 8) (by linarith) (by linarith),
      inside (4 / 8) (5 / 8) (by linarith) (by linarith),
      above (5 / 8) (6 / 8) (by linarith) (by linarith),
      above (6 / 8) (7 / 8) (by linarith) (by linarith),
      above (7 / 8) 1 (by linarith) (by linarith)]
    show _ = t 4 * (1 - (r * 8 - ((4 : ℕ) : ℝ))) + t 5 * (r * 8 - ((4 : ℕ) : ℝ))
    push_cast; ring
  · rw [below 0 (1 / 8) (by linarith) (by linarith),
      below (1 / 8) (2 / 8) (by linarith) (by linarith),
      below (2 / 8) (3 / 8) (by linarith) (by linarith),
      below (3 / 8) (4 / 8) (by linarith) (by linarith),
      below (4 / 8) (5 / 8) (by linarith) (by linarith),
      inside (5 / 8) (6 / 8) (by linarith) (by linarith),
      above (6 / 8) (7 / 8) (by linarith) (by linarith),
      above (7 / 8) 1 (by linarith) (by linarith)]
    show _ = t 5 * (1 - (r * 8 - ((5 : ℕ) : ℝ))) + t 6 * (r * 8 - ((5 : ℕ) : ℝ))
    push_cast; ring
  · rw [below 0 (1 / 8) (by linarith) (by linarith),
      below (1 / 8) (2 / 8) (by linarith) (by linarith),
      below (2 / 8) (3 / 8) (by linarith) (by linarith),
      below (3 / 8) (4 / 8) (by linarith) (by linarith),
      below (4 / 8) (5 / 8) (by linarith) (by linarith),
      below (5 / 8) (6 / 8) (by linarith) (by linarith),
      inside (6 / 8) (7 / 8) (by linarith) (by linarith),
      above (7 / 8) 1 (by linarith) (by linarith)]
    show _ = t 6 * (1 - (r * 8 - ((6 : ℕ) : ℝ))) + t 7 * (r * 8 - ((6 : ℕ) : ℝ))
    push_cast; ring
  · rw [below 0 (1 / 8) (by linarith) (by linarith),
      below (1 / 8) (2 / 8) (by linarith) (by linarith),
      below (2 / 8) (3 / 8) (by linarith) (by linarith),
      below (3 / 8) (4 / 8) (by linarith) (by linarith),
      below (4 / 8) (5 / 8) (by linarith) (by linarith),
      below (5 / 8) (6 / 8) (by linarith) (by linarith),
      below (6 / 8) (7 / 8) (by linarith) (by linarith),
      inside (7 / 8) 1 (by linarith) (by linarith)]
    show _ = t 7 * (1 - (r * 8 - ((7 : ℕ) : ℝ))) + t 8 * (r * 8 - ((7 : ℕ) : ℝ))
    push_cast; ring

end Cert.Curve

end
-- ==== Proof.Corners.lean ====
/-
  The thirty-two corners of a cell: corner `k` is the left (0) or right (1) end of the cell on axis `c`, by bit `c` of
  `k`. The product of the five weights, one per axis, sums over the corners to one; so a quantity that depends on one
  axis alone is left weighted by that axis's two weights. Nothing here mentions a program.
-/
module

public import proofs.«01_k».proof.Proof.Curve

@[expose] public section

noncomputable section

namespace Cert.Corners

/-- Which end of the cell corner `k` takes on axis `c`. -/
def bit (c : Fin 5) (k : Fin 32) : Fin 2 := ⟨k.val / 2 ^ c.val % 2, Nat.mod_lt _ Nat.two_pos⟩

/-- The weight of corner `k` on axis `c`, the position in the cell being `p` there. -/
def weight (c : Fin 5) (p : ℝ) (k : Fin 32) : ℝ := if bit c k = 1 then p else 1 - p

/-- The product of the five weights of corner `k`. -/
def weights (p : Fin 5 → ℝ) (k : Fin 32) : ℝ :=
  weight 0 (p 0) k * weight 1 (p 1) k * weight 2 (p 2) k * weight 3 (p 3) k * weight 4 (p 4) k

set_option maxHeartbeats 4000000 in
/-- The weighted sum over the corners of a quantity that depends on axis `a` alone. -/
theorem sum_corners (p : Fin 5 → ℝ) (a : Fin 5) (f : Fin 2 → ℝ) :
    ∑ k : Fin 32, weights p k * f (bit a k) = f 0 * (1 - p a) + f 1 * p a := by
  fin_cases a <;>
  · simp only [Fin.sum_univ_succ, Fin.sum_univ_zero, weights, weight]
    simp [bit]
    ring

end Cert.Corners

end
-- ==== Proof.Cells.lean ====
/-
  The words and the numbers the reference computes for one entry of the image: the cell's index as a 32-bit word, the
  position in the cell, the index word of a corner and the weight of a corner.
-/
module

public import proofs.«01_k».proof.Proof.Corners

@[expose] public section

noncomputable section

namespace Cert.Cells

open Idealize.ShloMosaic

/-- Rounding eight times a position down, and clipping the word to `0 … 7`, gives the cell's index. -/
theorem cell_word {r : ℝ} (h0 : 0 ≤ r) (h1 : r ≤ 1) :
    IntOp.minsi (7#32) (IntOp.maxsi (0#32) (Ideal.fptosi 32 (Ideal.liftRound Int.floor ((r * 8 : ℝ) : EReal))))
      = BitVec.ofNat 32 (Curve.cell r).val := by
  have hn : (0 : ℝ) ≤ r * 8 := by positivity
  have hf : ⌊r * 8⌋ = ((⌊r * 8⌋₊ : ℕ) : ℤ) := (Int.natCast_floor_eq_floor hn).symm
  have h8 : ⌊r * 8⌋₊ ≤ 8 := by
    have : ⌊r * 8⌋₊ ≤ ⌊(8 : ℝ)⌋₊ := Nat.floor_le_floor (by linarith)
    simpa using this
  rw [Ideal.liftRound_coe, Ideal.fptosi, Ideal.toIntClamped_coe, hf]
  show _ = BitVec.ofNat 32 (min ⌊r * 8⌋₊ 7)
  generalize ⌊r * 8⌋₊ = n at h8 ⊢
  have e : (if (0 : ℝ) ≤ (((n : ℕ) : ℤ) : ℝ) then ⌊(((n : ℕ) : ℤ) : ℝ)⌋ else ⌈(((n : ℕ) : ℤ) : ℝ)⌉) = ((n : ℕ) : ℤ) := by
    rw [Int.floor_intCast, Int.ceil_intCast]; simp
  rw [e]
  interval_cases n <;> rfl

/-- The cell's index word, read as a signed integer. -/
theorem cell_toInt : ∀ n : Fin 8, (BitVec.ofNat 32 n.val).toInt = (n.val : ℤ) := by decide

/-- The index word of corner `k` on axis `c`: a cell's index and the corner's bit, never negative and so not moved. -/
theorem corner_word : ∀ (c : Fin 5) (n : Fin 8) (k : Fin 32),
    Scalar.select
        (IntOp.cmpi CmpIPredicate.slt (IntOp.addi (BitVec.ofNat 32 n.val)
          (IntOp.andi (IntOp.shrsi ArithUnit.host (BitVec.ofNat 32 k.val) (BitVec.ofNat 32 c.val)) 1#32)) 0#32)
        (IntOp.addi (IntOp.addi (BitVec.ofNat 32 n.val)
          (IntOp.andi (IntOp.shrsi ArithUnit.host (BitVec.ofNat 32 k.val) (BitVec.ofNat 32 c.val)) 1#32)) 9#32)
        (IntOp.addi (BitVec.ofNat 32 n.val)
          (IntOp.andi (IntOp.shrsi ArithUnit.host (BitVec.ofNat 32 k.val) (BitVec.ofNat 32 c.val)) 1#32))
      = BitVec.ofNat 32 (n.val + (Corners.bit c k).val) := by
  decide +kernel

/-- Whether bit `c` of corner `k` is set, as the reference tests it. -/
theorem bit_word : ∀ (c : Fin 5) (k : Fin 32),
    IntOp.cmpi CmpIPredicate.eq
        (IntOp.andi (IntOp.shrsi ArithUnit.host (BitVec.ofNat 32 k.val) (BitVec.ofNat 32 c.val)) 1#32) 1#32
      = if Corners.bit c k = 1 then 1#1 else 0#1 := by
  decide +kernel

/-- The weight of corner `k` on axis `c`, as the reference selects it. -/
theorem corner_weight (c : Fin 5) (k : Fin 32) (p : ℝ) :
    Scalar.select (IntOp.cmpi CmpIPredicate.eq
        (IntOp.andi (IntOp.shrsi ArithUnit.host (BitVec.ofNat 32 k.val) (BitVec.ofNat 32 c.val)) 1#32) 1#32)
        (p : EReal) (1 - (p : EReal)) = ((Corners.weight c p k : ℝ) : EReal) := by
  rw [bit_word]
  unfold Corners.weight
  split
  · rfl
  · rw [EReal.coe_sub, EReal.coe_one]; rfl

end Cert.Cells

end
-- ==== Proof.Index.lean ====
/-
  The reference's index words and weights, read at an index: of a pixel, the cell and the position in it on every axis; of
  a corner and a pixel, the index word and the weight on every axis.
-/
module

public import proofs.«01_k».proof.Proof.Gen.ReferenceIdeal.Read
public import proofs.«01_k».proof.Proof.Cells
public import Idealize.ShloMosaic.Lib.Pointwise

@[expose] public section

set_option maxRecDepth 16384

noncomputable section

namespace Cert.Index

open Cert.ReferenceIdeal Cert.ReferenceIdeal.Gen Cert.ReferenceIdeal.Read Idealize.ShloMosaic Idealize.ShloMosaic.TcCoe Idealize.SL.Sem

variable (x : Vec Ideal S4x5x512x512 .f32)

/-- Eight times the clipped entry is eight times the position on the axis. -/
theorem scaled_at (i : S4x5x512x512.Idx) :
    val_main_v2 (F := Ideal) x i = ((Curve.unit (x i) * 8 : ℝ) : EReal) := by
  have e : val_main_v2 (F := Ideal) x i
      = min (1 : EReal) (max (0 : EReal) (x i)) * Ideal.ofBits .f32 1090519040#32 := by
    pointwise [val_main_v2, val_main_v1, val_main_cst_1, val_main_v0, val_main_call0_v4, val_main_call0_v3,
      val_main_call0_v2, val_main_call0_v1, val_main_call0_v0, val_main_cst, val_main_cst_0]
    show min (Ideal.ofBits .f32 1065353216#32) (max (Ideal.ofBits .f32 0#32) (x i)) * Ideal.ofBits .f32 1090519040#32 = _
    rw [Curve.bits_one, Ideal.ofBits_zero_f32, EReal.coe_one]
  have u : min (1 : EReal) (max (0 : EReal) (x i)) = (Curve.unit (x i) : EReal) := by
    have := Curve.clip_unit (x i)
    unfold Curve.clip at this
    rwa [EReal.coe_zero, EReal.coe_one] at this
  rw [e, u, Curve.bits_eight, ← EReal.coe_mul]

/-- The cell's index word. -/
theorem cell_at (i : S4x5x512x512.Idx) :
    val_main_v5 (F := Ideal) x i = BitVec.ofNat 32 (Curve.cell (Curve.unit (x i))).val := by
  have e : val_main_v5 (F := Ideal) x i = IntOp.minsi (7#32) (IntOp.maxsi (0#32)
      (Ideal.fptosi 32 (Ideal.liftRound Int.floor (val_main_v2 (F := Ideal) x i)))) := by
    pointwise [val_main_v5, val_main_call1_v4, val_main_call1_v3, val_main_call1_v2, val_main_call1_v1, val_main_call1_v0,
      val_main_c, val_main_c_2, val_main_v4, val_main_v3]
    rfl
  rw [e, scaled_at, Cells.cell_word (Curve.unit_spec (x i)).1 (Curve.unit_spec (x i)).2.1]

/-- The position in the cell. -/
theorem pos_at (i : S4x5x512x512.Idx) :
    val_main_v7 (F := Ideal) x i = ((Curve.pos (Curve.unit (x i)) : ℝ) : EReal) := by
  have e : val_main_v7 (F := Ideal) x i
      = val_main_v2 (F := Ideal) x i - FloatOps.sitofp (F := Ideal) .f32 (val_main_v5 (F := Ideal) x i) := by
    pointwise [val_main_v7, val_main_v6]
  have s : FloatOps.sitofp (F := Ideal) .f32 (val_main_v5 (F := Ideal) x i)
      = (((Curve.cell (Curve.unit (x i))).val : ℝ) : EReal) := by
    rw [cell_at]
    show (((BitVec.ofNat 32 (Curve.cell (Curve.unit (x i))).val).toInt : ℝ) : EReal) = _
    rw [Cells.cell_toInt, Int.cast_natCast]
  rw [e, s, scaled_at, ← EReal.coe_sub]
  rfl

/-- The entry of the image on axis `c` at a pixel, as a position on the axis. -/
def at_ (b : Fin 4) (h w : Fin 512) (c : Fin 5) : ℝ := Curve.unit (x (ix4 b c h w))

/-- The index word of a corner on axis 0. -/
theorem word0 (k : Fin 32) (b : Fin 4) (h w : Fin 512) : val_main_v106 (F := Ideal) x (ix4 k b h w)
    = BitVec.ofNat 32 ((Curve.cell (at_ x b h w 0)).val + (Corners.bit 0 k).val) := by
  have e := Cells.corner_word 0 (Curve.cell (at_ x b h w 0)) k
  rw [at_, ← cell_at] at e
  rw [at_, ← e]
  pointwise [val_main_v106, val_main_v105, val_main_v104, val_main_v103, val_main_v102, val_main_v54, val_main_v53,
    val_main_v52, val_main_v51, val_main_v10, val_main_v9, val_main_v34, val_main_v33, val_main_v32,
    val_main_v31, val_main_v30, val_main_v29, val_main_c_24, val_main_c_25, val_main_c_3, val_main_c_4]

/-- The index word of a corner on axis 1. -/
theorem word1 (k : Fin 32) (b : Fin 4) (h w : Fin 512) : val_main_v111 (F := Ideal) x (ix4 k b h w)
    = BitVec.ofNat 32 ((Curve.cell (at_ x b h w 1)).val + (Corners.bit 1 k).val) := by
  have e := Cells.corner_word 1 (Curve.cell (at_ x b h w 1)) k
  rw [at_, ← cell_at] at e
  rw [at_, ← e]
  pointwise [val_main_v111, val_main_v110, val_main_v109, val_main_v108, val_main_v107, val_main_v58, val_main_v57,
    val_main_v56, val_main_v55, val_main_v12, val_main_v11, val_main_v38, val_main_v37, val_main_v36,
    val_main_v35, val_main_v30, val_main_v29, val_main_c_26, val_main_c_27, val_main_c_5, val_main_c_6]

/-- The index word of a corner on axis 2. -/
theorem word2 (k : Fin 32) (b : Fin 4) (h w : Fin 512) : val_main_v116 (F := Ideal) x (ix4 k b h w)
    = BitVec.ofNat 32 ((Curve.cell (at_ x b h w 2)).val + (Corners.bit 2 k).val) := by
  have e := Cells.corner_word 2 (Curve.cell (at_ x b h w 2)) k
  rw [at_, ← cell_at] at e
  rw [at_, ← e]
  pointwise [val_main_v116, val_main_v115, val_main_v114, val_main_v113, val_main_v112, val_main_v62, val_main_v61,
    val_main_v60, val_main_v59, val_main_v14, val_main_v13, val_main_v42, val_main_v41, val_main_v40,
    val_main_v39, val_main_v30, val_main_v29, val_main_c_28, val_main_c_29, val_main_c_7, val_main_c_8]

/-- The index word of a corner on axis 3. -/
theorem word3 (k : Fin 32) (b : Fin 4) (h w : Fin 512) : val_main_v121 (F := Ideal) x (ix4 k b h w)
    = BitVec.ofNat 32 ((Curve.cell (at_ x b h w 3)).val + (Corners.bit 3 k).val) := by
  have e := Cells.corner_word 3 (Curve.cell (at_ x b h w 3)) k
  rw [at_, ← cell_at] at e
  rw [at_, ← e]
  pointwise [val_main_v121, val_main_v120, val_main_v119, val_main_v118, val_main_v117, val_main_v66, val_main_v65,
    val_main_v64, val_main_v63, val_main_v16, val_main_v15, val_main_v46, val_main_v45, val_main_v44,
    val_main_v43, val_main_v30, val_main_v29, val_main_c_30, val_main_c_31, val_main_c_9, val_main_c_10]

/-- The index word of a corner on axis 4. -/
theorem word4 (k : Fin 32) (b : Fin 4) (h w : Fin 512) : val_main_v126 (F := Ideal) x (ix4 k b h w)
    = BitVec.ofNat 32 ((Curve.cell (at_ x b h w 4)).val + (Corners.bit 4 k).val) := by
  have e := Cells.corner_word 4 (Curve.cell (at_ x b h w 4)) k
  rw [at_, ← cell_at] at e
  rw [at_, ← e]
  pointwise [val_main_v126, val_main_v125, val_main_v124, val_main_v123, val_main_v122, val_main_v70, val_main_v69,
    val_main_v68, val_main_v67, val_main_v18, val_main_v17, val_main_v50, val_main_v49, val_main_v48,
    val_main_v47, val_main_v30, val_main_v29, val_main_c_32, val_main_c_33, val_main_c_11, val_main_c_12]

/-- The weight of a corner on axis 0. -/
theorem weight0 (k : Fin 32) (b : Fin 4) (h w : Fin 512) : val_main_v77 (F := Ideal) x (ix4 k b h w)
    = ((Corners.weight 0 (Curve.pos (at_ x b h w 0)) k : ℝ) : EReal) := by
  rw [← Cells.corner_weight, at_, ← pos_at]
  pointwise [val_main_v77, val_main_v76, val_main_v75, val_main_v74, val_main_v73, val_main_v72, val_main_c_14,
    val_main_cst_15, val_main_call2_v0, val_main_call2_v1, val_main_call2_v2, val_main_v20, val_main_v19,
    val_main_v34, val_main_v33, val_main_v32, val_main_v31, val_main_v30, val_main_v29, val_main_c_3,
    val_main_c_4, val_main_v71, val_main_cst_13]

/-- The weight of a corner on axis 1, multiplied into the weights of the axes before it. -/
theorem weight1 (k : Fin 32) (b : Fin 4) (h w : Fin 512) : val_main_v83 (F := Ideal) x (ix4 k b h w)
    = val_main_v77 (F := Ideal) x (ix4 k b h w) * ((Corners.weight 1 (Curve.pos (at_ x b h w 1)) k : ℝ) : EReal) := by
  rw [← Cells.corner_weight, at_, ← pos_at]
  pointwise [val_main_v83, val_main_v82, val_main_v81, val_main_v80, val_main_v79, val_main_v78, val_main_c_16,
    val_main_cst_17, val_main_call3_v0, val_main_call3_v1, val_main_call3_v2, val_main_v22, val_main_v21,
    val_main_v38, val_main_v37, val_main_v36, val_main_v35, val_main_v30, val_main_v29, val_main_c_5,
    val_main_c_6]

/-- The weight of a corner on axis 2, multiplied into the weights of the axes before it. -/
theorem weight2 (k : Fin 32) (b : Fin 4) (h w : Fin 512) : val_main_v89 (F := Ideal) x (ix4 k b h w)
    = val_main_v83 (F := Ideal) x (ix4 k b h w) * ((Corners.weight 2 (Curve.pos (at_ x b h w 2)) k : ℝ) : EReal) := by
  rw [← Cells.corner_weight, at_, ← pos_at]
  pointwise [val_main_v89, val_main_v88, val_main_v87, val_main_v86, val_main_v85, val_main_v84, val_main_c_18,
    val_main_cst_19, val_main_call4_v0, val_main_call4_v1, val_main_call4_v2, val_main_v24, val_main_v23,
    val_main_v42, val_main_v41, val_main_v40, val_main_v39, val_main_v30, val_main_v29, val_main_c_7,
    val_main_c_8]

/-- The weight of a corner on axis 3, multiplied into the weights of the axes before it. -/
theorem weight3 (k : Fin 32) (b : Fin 4) (h w : Fin 512) : val_main_v95 (F := Ideal) x (ix4 k b h w)
    = val_main_v89 (F := Ideal) x (ix4 k b h w) * ((Corners.weight 3 (Curve.pos (at_ x b h w 3)) k : ℝ) : EReal) := by
  rw [← Cells.corner_weight, at_, ← pos_at]
  pointwise [val_main_v95, val_main_v94, val_main_v93, val_main_v92, val_main_v91, val_main_v90, val_main_c_20,
    val_main_cst_21, val_main_call5_v0, val_main_call5_v1, val_main_call5_v2, val_main_v26, val_main_v25,
    val_main_v46, val_main_v45, val_main_v44, val_main_v43, val_main_v30, val_main_v29, val_main_c_9,
    val_main_c_10]

/-- The weight of a corner on axis 4, multiplied into the weights of the axes before it. -/
theorem weight4 (k : Fin 32) (b : Fin 4) (h w : Fin 512) : val_main_v101 (F := Ideal) x (ix4 k b h w)
    = val_main_v95 (F := Ideal) x (ix4 k b h w) * ((Corners.weight 4 (Curve.pos (at_ x b h w 4)) k : ℝ) : EReal) := by
  rw [← Cells.corner_weight, at_, ← pos_at]
  pointwise [val_main_v101, val_main_v100, val_main_v99, val_main_v98, val_main_v97, val_main_v96, val_main_c_22,
    val_main_cst_23, val_main_call6_v0, val_main_call6_v1, val_main_call6_v2, val_main_v28, val_main_v27,
    val_main_v50, val_main_v49, val_main_v48, val_main_v47, val_main_v30, val_main_v29, val_main_c_11,
    val_main_c_12]

/-- The product of the five weights of a corner. -/
theorem weights_at (k : Fin 32) (b : Fin 4) (h w : Fin 512) : val_main_v101 (F := Ideal) x (ix4 k b h w)
    = ((Corners.weights (fun c => Curve.pos (at_ x b h w c)) k : ℝ) : EReal) := by
  rw [weight4, weight3, weight2, weight1, weight0]
  simp only [← EReal.coe_mul, Corners.weights]

/-- Column `c` of the index array: the cell's index on axis `c` and the corner's bit. -/
theorem column (k : Fin 32) (b : Fin 4) (h w : Fin 512) (c : Fin 5) : val_main_v132 (F := Ideal) x (ix5 k b h w c)
    = BitVec.ofNat 32 ((Curve.cell (at_ x b h w c)).val + (Corners.bit c k).val) := by
  fin_cases c
  · refine Eq.trans ?_ (word0 x k b h w)
    pointwise [val_main_v132, val_main_v127, val_main_v128, val_main_v129, val_main_v130, val_main_v131]
  · refine Eq.trans ?_ (word1 x k b h w)
    pointwise [val_main_v132, val_main_v127, val_main_v128, val_main_v129, val_main_v130, val_main_v131]
  · refine Eq.trans ?_ (word2 x k b h w)
    pointwise [val_main_v132, val_main_v127, val_main_v128, val_main_v129, val_main_v130, val_main_v131]
  · refine Eq.trans ?_ (word3 x k b h w)
    pointwise [val_main_v132, val_main_v127, val_main_v128, val_main_v129, val_main_v130, val_main_v131]
  · refine Eq.trans ?_ (word4 x k b h w)
    pointwise [val_main_v132, val_main_v127, val_main_v128, val_main_v129, val_main_v130, val_main_v131]

end Cert.Index

end
-- ==== Proof.Gather.lean ====
/-
  The reference's gather, read at an index: of every channel, the entry of the interpolation table at the five indices
  that the index array holds for the corner and the pixel.
-/
module

public import proofs.«01_k».proof.Proof.Gen.ReferenceIdeal.Read
public import Idealize.ShloMosaic.Lib.Pointwise

@[expose] public section

set_option maxRecDepth 16384

noncomputable section

namespace Cert.Gather

open Cert.ReferenceIdeal Cert.ReferenceIdeal.Gen Cert.ReferenceIdeal.Read Idealize.ShloMosaic Idealize.ShloMosaic.TcCoe Idealize.SL.Sem

/-- The gather's dimension numbers. -/
abbrev dims := gather_S5x9x9x9x9x9_S32x4x512x512x5_S5x32x4x512x512_0_12345_n_n_12345_4_511111

/-- On the axis of the table that column `c` of the index array names, the gather reads at the word there. -/
theorem axis_eq (idx : IVec S32x4x512x512x5 32) (ch : Fin 5) (k : Fin 32) (b : Fin 4) (h w : Fin 512)
    (c : Fin 5) (n : Fin 9) (hn : idx (ix5 k b h w c) = BitVec.ofNat 32 n.val) :
    dims.start (ix5 ch k b h w) idx c.succ + dims.batchCoord (ix5 ch k b h w) c.succ
      + dims.offCoord (ix5 ch k b h w) c.succ = n.val := by
  have hm : c.succ ∈ dims.startIndexMap := by
    show c.succ ∈ ([1, 2, 3, 4, 5] : List (Fin 6)); fin_cases c <;> decide
  rw [GatherDims.batchCoord_eq_zero _ _ _ (show c.succ ∉ dims.operandBatchingDims from List.not_mem_nil),
    GatherDims.offCoord_eq_zero _ _ _ (fun hk => ((GatherDims.mem_sKept _ _).mp hk).1 hm)]
  unfold GatherDims.start
  rw [dif_pos hm]
  have hsi : dims.siIdx (ix5 ch k b h w) ⟨dims.startIndexMap.idxOf c.succ, List.idxOf_lt_length_iff.2 hm⟩
      = ix5 k b h w c := by
    funext a
    refine Fin.ext ?_
    match a with
    | ⟨0, _⟩ => rfl
    | ⟨1, _⟩ => rfl
    | ⟨2, _⟩ => rfl
    | ⟨3, _⟩ => rfl
    | ⟨4, _⟩ => fin_cases c <;> rfl
  rw [hsi, hn]
  have e8 : S5x9x9x9x9x9.size c.succ - dims.sliceSizes c.succ = 8 := by fin_cases c <;> rfl
  rw [e8]
  clear hsi e8 hm hn
  revert n
  decide

/-- On the channel axis the gather reads at the channel. -/
theorem axis_zero (idx : IVec S32x4x512x512x5 32) (ch : Fin 5) (k : Fin 32) (b : Fin 4) (h w : Fin 512) :
    dims.start (ix5 ch k b h w) idx 0 + dims.batchCoord (ix5 ch k b h w) 0
      + dims.offCoord (ix5 ch k b h w) 0 = ch.val := by
  have hm : (0 : Fin 6) ∉ dims.startIndexMap := by show (0 : Fin 6) ∉ ([1, 2, 3, 4, 5] : List (Fin 6)); decide
  rw [GatherDims.batchCoord_eq_zero _ _ _ (show (0 : Fin 6) ∉ dims.operandBatchingDims from List.not_mem_nil)]
  unfold GatherDims.start
  rw [dif_neg hm]
  simp only [Nat.add_zero, Nat.zero_add]
  rfl

/-- The gather at a channel, a corner and a pixel: the channel's entry of the table at the five indices. -/
theorem gather_at {F : FTy → Type} (y : Vec F S5x9x9x9x9x9 .f32) (idx : IVec S32x4x512x512x5 32) (ch : Fin 5)
    (k : Fin 32) (b : Fin 4) (h w : Fin 512) (n : Fin 5 → Fin 9)
    (hn : ∀ c, idx (ix5 k b h w c) = BitVec.ofNat 32 (n c).val) :
    Host.gather dims y idx (ix5 ch k b h w) = y (ix6 ch (n 0) (n 1) (n 2) (n 3) (n 4)) := by
  unfold Host.gather
  congr 1
  funext a
  refine Fin.ext ?_
  match a with
  | ⟨0, _⟩ => exact axis_zero idx ch k b h w
  | ⟨1, _⟩ => exact axis_eq idx ch k b h w 0 (n 0) (hn 0)
  | ⟨2, _⟩ => exact axis_eq idx ch k b h w 1 (n 1) (hn 1)
  | ⟨3, _⟩ => exact axis_eq idx ch k b h w 2 (n 2) (hn 2)
  | ⟨4, _⟩ => exact axis_eq idx ch k b h w 3 (n 3) (hn 3)
  | ⟨5, _⟩ => exact axis_eq idx ch k b h w 4 (n 4) (hn 4)

end Cert.Gather

end
-- ==== Proof.Reference.lean ====
/-
  What the reference computes: at every pixel and channel, the sum over the thirty-two corners of the pixel's cell of the
  corner's weight times the table's entry there.
-/
module

public import proofs.«01_k».proof.Proof.Index
public import proofs.«01_k».proof.Proof.Gather

@[expose] public section

set_option maxRecDepth 16384

noncomputable section

namespace Cert.ReferenceValue

open Cert.ReferenceIdeal Cert.ReferenceIdeal.Gen Cert.ReferenceIdeal.Read Idealize.ShloMosaic Idealize.ShloMosaic.TcCoe Idealize.SL.Sem

variable (x : Vec Ideal S4x5x512x512 .f32) (L : Vec Ideal S1x5x9x9x9x9x9 .f32)

/-- The grid point of corner `k` on axis `c`. -/
def point (b : Fin 4) (h w : Fin 512) (k : Fin 32) (c : Fin 5) : Fin 9 :=
  ⟨(Curve.cell (Index.at_ x b h w c)).val + (Corners.bit c k).val, by
    have := (Curve.cell (Index.at_ x b h w c)).isLt
    have := (Corners.bit c k).isLt
    omega⟩

/-- The entry of the table at five indices. -/
def entry (ch : Fin 5) (n : Fin 5 → Fin 9) : EReal := L (ix7 (0 : Fin 1) ch (n 0) (n 1) (n 2) (n 3) (n 4))

/-- One corner's term. -/
theorem term (ch : Fin 5) (k : Fin 32) (b : Fin 4) (h w : Fin 512) :
    val_main_v136 (F := Ideal) x L (ix5 ch k b h w)
      = ((Corners.weights (fun c => Curve.pos (Index.at_ x b h w c)) k : ℝ) : EReal) * entry L ch (point x b h w k) := by
  have g : val_main_v133 (F := Ideal) x L (ix5 ch k b h w) = entry L ch (point x b h w k) := by
    refine (Gather.gather_at (F := Ideal) (val_main_v8 (F := Ideal) L) (val_main_v132 (F := Ideal) x) ch k b h w
      (point x b h w k) (fun c => Index.column x k b h w c)).trans ?_
    unfold entry
    pointwise [val_main_v8]
  rw [← g, ← Index.weights_at]
  pointwise [val_main_v136, val_main_v135, val_main_v134]

/-- The result at a pixel and a channel. -/
theorem value_at (b : Fin 4) (ch : Fin 5) (h w : Fin 512) :
    val_main_v138 (F := Ideal) x L (ix4 b ch h w)
      = ∑ k : Fin 32, ((Corners.weights (fun c => Curve.pos (Index.at_ x b h w c)) k : ℝ) : EReal)
          * entry L ch (point x b h w k) := by
  rw [val_main_v138_apply, val_main_v137_apply]
  have z : (val_main_cst_34 (F := Ideal)) (Shape.Idx.first h_S_) = 0 := Ideal.ofBits_zero_f32
  rw [z, zero_add]
  refine Finset.sum_congr rfl fun k _ => ?_
  rw [← term]
  refine congrArg _ (funext fun a => ?_)
  match a with
  | ⟨0, _⟩ => rfl
  | ⟨1, _⟩ => rfl
  | ⟨2, _⟩ => rfl
  | ⟨3, _⟩ => rfl
  | ⟨4, _⟩ => rfl

end Cert.ReferenceValue

end
-- ==== Proof.Block.lean ====
/-
  What one grid point of the kernel leaves in its result block, from the table of nine words per channel and the
  point's block of the image: one store of the whole block, whose value is computed entry by entry from the nine words
  of the point's channel.
-/
module

public import proofs.«01_k».proof.Proof.Gen.KernelIdeal.Value
public import proofs.«01_k».proof.Proof.Curve

@[expose] public section

set_option maxRecDepth 16384

noncomputable section

namespace Cert.Block

open Cert.KernelIdeal Cert.KernelIdeal.Gen Cert.KernelIdeal.Value Idealize.ShloMosaic Idealize.ShloMosaic.TcCoe Idealize.SL.Sem

variable {F : FTy → Type} [FloatOps F]

/-- The value a grid point stores, from the nine words `t` of its channel and its block `x` of the image. -/
def stored (t : Fin 9 → F .f32) (x : Vec F S4x1x512x512 .f32) : Vec F S4x1x512x512 .f32 :=
  k0_pay6 x
    (k0_pay5 x
      (k0_pay2 x (k0_pay1 (t 0) (t 1) (t 0) (t 2) (t 1) (t 3) (t 2) (t 4) (t 3) (t 5) (t 4))
        (t 6) (t 5) (t 7) (t 6) (t 8) (t 7) (t 1) (t 0))
      (k0_pay3 (t 2) (t 1)) (Scalar.ofBits .f32 0x3E800000#32) k0_pay4 (t 3) (t 2) (t 4) (t 3) (t 5) (t 4))
    (t 6) (t 5) (t 7) (t 6) (t 8) (t 7)

/-- The index of word `j` of channel `a` in the table. -/
def word (a : Fin 5) (j : Fin 9) : S5x9.Idx := fun k => match k with
  | ⟨0, _⟩ => a
  | ⟨1, _⟩ => j

/-- The four offsets of a whole block are zero. -/
theorem zero_offsets : (![0, 0, 0, 0] : Fin 4 → Nat) = fun _ => 0 := funext fun a => by fin_cases a <;> rfl

/-- The channel of a grid point. -/
def chan (i : grid0.Coords) : Fin 5 := ⟨(i 0).val, (i 0).isLt⟩

/-- A one-word load at row `a` and column `j` of the table reads that word. -/
theorem load_word (x : Vec F S5x9 .f32) (off : Fin 2 → Nat) (a : Fin 5) (j : Fin 9) (h : off = ![a.val, j.val])
    (inb : ∀ k, off k + S1x1.size k ≤ S5x9.size k) (y : S1x1.Idx) :
    x (word a j) = View.ld (Val := Elt F) (e' := .f32) x (Rect.unit (s := S5x9) off S1x1.size inb) y := by
  subst h
  refine congrArg x (funext fun k => ?_)
  match k with
  | ⟨0, _⟩ => exact Fin.ext (show a.val = a.val + 1 * (y 0).val by have : (y 0).val < 1 := (y 0).isLt; omega)
  | ⟨1, _⟩ => exact Fin.ext (show j.val = j.val + 1 * (y 1).val by have : (y 1).val < 1 := (y 1).isLt; omega)

/-- The words that a grid point loads from the table `x`, as the run reads them. -/
def loads (i : grid0.Coords) (x : Vec F S5x9 .f32) (j : Fin 9) : F .f32 :=
  have y : S1x1.Idx := Shape.Idx.first (s := S1x1) (by decide)
  match j with
  | 0 => View.ld (Val := Elt F) (e' := .f32) x (Rect.unit (s := S5x9) (k0_off1 i) S1x1.size (k0_off1_inb i)) y
  | 1 => View.ld (Val := Elt F) (e' := .f32) x (Rect.unit (s := S5x9) (k0_off2 i) S1x1.size (k0_off2_inb i)) y
  | 2 => View.ld (Val := Elt F) (e' := .f32) x (Rect.unit (s := S5x9) (k0_off3 i) S1x1.size (k0_off3_inb i)) y
  | 3 => View.ld (Val := Elt F) (e' := .f32) x (Rect.unit (s := S5x9) (k0_off4 i) S1x1.size (k0_off4_inb i)) y
  | 4 => View.ld (Val := Elt F) (e' := .f32) x (Rect.unit (s := S5x9) (k0_off5 i) S1x1.size (k0_off5_inb i)) y
  | 5 => View.ld (Val := Elt F) (e' := .f32) x (Rect.unit (s := S5x9) (k0_off6 i) S1x1.size (k0_off6_inb i)) y
  | 6 => View.ld (Val := Elt F) (e' := .f32) x (Rect.unit (s := S5x9) (k0_off7 i) S1x1.size (k0_off7_inb i)) y
  | 7 => View.ld (Val := Elt F) (e' := .f32) x (Rect.unit (s := S5x9) (k0_off8 i) S1x1.size (k0_off8_inb i)) y
  | 8 => View.ld (Val := Elt F) (e' := .f32) x (Rect.unit (s := S5x9) (k0_off9 i) S1x1.size (k0_off9_inb i)) y

/-- They are the nine words of the point's channel. -/
theorem loads_eq (i : grid0.Coords) (x : Vec F S5x9 .f32) : loads i x = fun j => x (word (chan i) j) := by
  funext j
  match j with
  | 0 => exact (load_word x _ (chan i) 0 (k0_off1_eq i) _ _).symm
  | 1 => exact (load_word x _ (chan i) 1 (k0_off2_eq i) _ _).symm
  | 2 => exact (load_word x _ (chan i) 2 (k0_off3_eq i) _ _).symm
  | 3 => exact (load_word x _ (chan i) 3 (k0_off4_eq i) _ _).symm
  | 4 => exact (load_word x _ (chan i) 4 (k0_off5_eq i) _ _).symm
  | 5 => exact (load_word x _ (chan i) 5 (k0_off6_eq i) _ _).symm
  | 6 => exact (load_word x _ (chan i) 6 (k0_off7_eq i) _ _).symm
  | 7 => exact (load_word x _ (chan i) 7 (k0_off8_eq i) _ _).symm
  | 8 => exact (load_word x _ (chan i) 8 (k0_off9_eq i) _ _).symm

/-- What the run of a grid point leaves in the result's staging buffer. -/
theorem out_eq (c : Dev nD) (i : grid0.Coords) (arg1 : Memref sig .tc .smem S5x9 .f32) (h1 : arg1.IsWhole)
    (arg2 : Memref sig .tc .vmem S4x1x512x512 .f32) (h2 : arg2.IsWhole)
    (arg3 : Memref sig .tc .vmem S4x1x512x512 .f32) (h3 : arg3.IsWhole)
    (x0 : Vec F S5x9 .f32) (x1 : Vec F S4x1x512x512 .f32) :
    out0_A_2 c i arg1 h1 arg2 h2 arg3 h3 x0 x1 = stored (fun j => x0 (word (chan i) j)) x1 := by
  unfold out0_A_2
  rw [View.read_writes_eq_canon _ _ _ (cover0_A_2 c i arg1 h1 arg2 h2 arg3 h3 x0 x1)]
  unfold kernelRun0_A
  dsimp only
  simp only [View.readAt_eq_ld, h1.read_unread, h2.read_unread, View.canon_unit_zero (S := S4x1x512x512) zero_offsets, View.ld_unit_zero (S := S4x1x512x512) zero_offsets]
  rw [← loads_eq]
  sl_unfold_words
  simp only [View.readAt_eq_ld, h1.read_unread, h2.read_unread]
  have whole := View.ld_unit_zero (S := S4x1x512x512) (Val := Elt F) (e := .f32) zero_offsets
    inb_S4x1x512x512_S4x1x512x512_0_0_0_0 x1
  refine Eq.trans ?_ (congrArg (stored (loads i x0)) whole)
  rfl

/-- Over the extended reals each stored entry is the constant and the eight ramps, at the image's entry there. -/
theorem stored_apply (t : Fin 9 → EReal) (x : Vec Ideal S4x1x512x512 .f32) (j : S4x1x512x512.Idx) :
    stored (F := Ideal) t x j = Curve.ramps t (x j) := by
  unfold stored k0_pay6 k0_pay5 k0_pay4 k0_pay3 k0_pay2 k0_pay1
  pointwise
  simp only [Curve.ramps, Curve.clip, Curve.bits_two, Curve.bits_three, Curve.bits_four, Curve.bits_five, Curve.bits_six,
    Curve.bits_seven, Curve.bits_eight, Curve.bits_e1, Curve.bits_e2, Curve.bits_e3, Curve.bits_e4, Curve.bits_e5,
    Curve.bits_e6, Curve.bits_e7, EReal.coe_zero, EReal.coe_one, mul_one]

end Cert.Block

end
-- ==== Proof.Table.lean ====
/-
  The table the kernel's host operations build from the interpolation table: row `a` holds the nine entries on axis
  line `a` of channel `a`.
-/
module

public import proofs.«01_k».proof.Proof.Block

@[expose] public section

set_option maxRecDepth 16384

noncomputable section

namespace Cert.Table

open Cert.KernelIdeal Cert.KernelIdeal.Gen Cert.KernelIdeal.Value Idealize.ShloMosaic Idealize.ShloMosaic.TcCoe Idealize.SL.Sem

/-- The entry on axis line `a` of channel `a` at position `j`: `j` on axis `a`, zero on the other axes. -/
def lineIdx (a : Fin 5) (j : Fin 9) : S1x5x9x9x9x9x9.Idx := fun k => match k with
  | ⟨0, _⟩ => (0 : Fin 1)
  | ⟨1, _⟩ => a
  | ⟨2, _⟩ => if a = 0 then j else (0 : Fin 9)
  | ⟨3, _⟩ => if a = 1 then j else (0 : Fin 9)
  | ⟨4, _⟩ => if a = 2 then j else (0 : Fin 9)
  | ⟨5, _⟩ => if a = 3 then j else (0 : Fin 9)
  | ⟨6, _⟩ => if a = 4 then j else (0 : Fin 9)

/-- The table of nine words per channel, as the host operations compute it from the interpolation table. -/
def table (L : Vec Ideal S1x5x9x9x9x9x9 .f32) : Vec Ideal S5x9 .f32 :=
  concatenate S5x9 0 [
    ⟨S1x9, broadcastInDim S1x9 ![1] bcast_S9_S1x9_1 (shapeCast S9 (extractStridedSlice S1x9x1x1x1x1 ![0, 0, 0, 0, 0, 0] (shapeCast S5x9x9x9x9x9 L shapeCasts_S1x5x9x9x9x9x9_S5x9x9x9x9x9) slices_S5x9x9x9x9x9_S1x9x1x1x1x1_0_0_0_0_0_0) shapeCasts_S1x9x1x1x1x1_S9)⟩,
    ⟨S1x9, broadcastInDim S1x9 ![1] bcast_S9_S1x9_1 (shapeCast S9 (extractStridedSlice S1x1x9x1x1x1 ![1, 0, 0, 0, 0, 0] (shapeCast S5x9x9x9x9x9 L shapeCasts_S1x5x9x9x9x9x9_S5x9x9x9x9x9) slices_S5x9x9x9x9x9_S1x1x9x1x1x1_1_0_0_0_0_0) shapeCasts_S1x1x9x1x1x1_S9)⟩,
    ⟨S1x9, broadcastInDim S1x9 ![1] bcast_S9_S1x9_1 (shapeCast S9 (extractStridedSlice S1x1x1x9x1x1 ![2, 0, 0, 0, 0, 0] (shapeCast S5x9x9x9x9x9 L shapeCasts_S1x5x9x9x9x9x9_S5x9x9x9x9x9) slices_S5x9x9x9x9x9_S1x1x1x9x1x1_2_0_0_0_0_0) shapeCasts_S1x1x1x9x1x1_S9)⟩,
    ⟨S1x9, broadcastInDim S1x9 ![1] bcast_S9_S1x9_1 (shapeCast S9 (extractStridedSlice S1x1x1x1x9x1 ![3, 0, 0, 0, 0, 0] (shapeCast S5x9x9x9x9x9 L shapeCasts_S1x5x9x9x9x9x9_S5x9x9x9x9x9) slices_S5x9x9x9x9x9_S1x1x1x1x9x1_3_0_0_0_0_0) shapeCasts_S1x1x1x1x9x1_S9)⟩,
    ⟨S1x9, broadcastInDim S1x9 ![1] bcast_S9_S1x9_1 (shapeCast S9 (extractStridedSlice S1x1x1x1x1x9 ![4, 0, 0, 0, 0, 0] (shapeCast S5x9x9x9x9x9 L shapeCasts_S1x5x9x9x9x9x9_S5x9x9x9x9x9) slices_S5x9x9x9x9x9_S1x1x1x1x1x9_4_0_0_0_0_0) shapeCasts_S1x1x1x1x1x9_S9)⟩]
    concatenates_S1x9_S1x9_S1x9_S1x9_S1x9_S5x9_d0

/-- Its word `j` of channel `a` is the entry on that channel's axis line. -/
theorem table_apply (L : Vec Ideal S1x5x9x9x9x9x9 .f32) (a : Fin 5) (j : Fin 9) :
    table L (Block.word a j) = L (lineIdx a j) := by
  have h : ∀ i : S1x5x9x9x9x9x9.Idx, i = lineIdx a j → L i = L (lineIdx a j) := fun i e => congrArg L e
  fin_cases a
  all_goals
    pointwise [table, Block.word]
    refine h _ (funext fun k => ?_)
    fin_cases k <;> rfl

variable (m : (ℓ : Loc nD τ sig) → Buf (Elt Ideal) ℓ)

/-- The kernel finds that table in its first operand. -/
theorem entry_table (c : Dev nD) : V m c main_call0_v16 = table (m ((c : Thread nD τ).loc main_arg1)) := by
  show StableHlo.after hostOps0 (fun b => m (c, b)) (Proc.devRef .tc main_call0_v16) = _
  simp only [hostOps0, StableHlo.TRef.unary, StableHlo.TRef.reshape, StableHlo.TRef.nary, StableHlo.TRef.toBuf, StableHlo.TRef.ofBuf, cast_eq]
  after_results_simp
  dsimp only [Matrix.cons_val]
  rfl

end Cert.Table

end
-- ==== Proof.Separable.lean ====
/-
  The precondition, read: every entry of the table is finite, and channel `c` depends on its index on axis `c` alone.
-/
module

public import proofs.«01_k».proof.Proof.Gen.Pre_separable
public import proofs.«01_k».proof.Proof.Table
public import Idealize.ShloMosaic.Lib.Pointwise

@[expose] public section

set_option maxRecDepth 16384

noncomputable section

namespace Cert.Separable

open Cert.Pre_separable Cert.Pre_separable.Gen Idealize.ShloMosaic

variable (x : Vec Ideal S4x5x512x512 .f32) (L : Vec Ideal S1x5x9x9x9x9x9 .f32)

/-- The test that the precondition makes of an entry `u` and the axis line's entry `v`: equal, and below infinity. -/
def test (u v : EReal) : BitVec 1 :=
  IntOp.andi (FloatOps.cmpf (F := Ideal) (φ := .f32) .oeq u v)
    (FloatOps.cmpf (F := Ideal) (φ := .f32) .olt (FloatOps.absf (F := Ideal) (φ := .f32) u) (Ideal.ofBits .f32 2139095040#32))

/-- An entry that passes the test equals the axis line's, and is a real number. -/
theorem of_test {u v : EReal} (h : test u v = 1#1) : u = v ∧ ∃ r : ℝ, u = (r : EReal) := by
  have both : ∀ a b : Bool, IntOp.andi (BitVec.ofBool a) (BitVec.ofBool b) = 1#1 → a = true ∧ b = true := by decide
  obtain ⟨e, f⟩ := both (decide (u = v)) (decide (max u (-u) < Ideal.ofBits .f32 2139095040#32)) h
  refine ⟨of_decide_eq_true e, ?_⟩
  have lt := of_decide_eq_true f
  rw [Curve.bits_top] at lt
  induction u with
  | bot => simp at lt
  | coe r => exact ⟨r, rfl⟩
  | top => simp at lt

/-- The entry on an axis line, its seven indices written out. -/
theorem lineIdx_eq (a : Fin 5) (j : Fin 9) : Table.lineIdx a j = ix7 (0 : Fin 1) a (if a = 0 then j else 0)
    (if a = 1 then j else 0) (if a = 2 then j else 0) (if a = 3 then j else 0) (if a = 4 then j else 0) := by
  funext k
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The precondition at an entry of channel `ch` is the test against the entry on that channel's axis line. -/
theorem fn_at (ch : Fin 5) (n : Fin 5 → Fin 9) : fn (F := Ideal) x L (ix6 ch (n 0) (n 1) (n 2) (n 3) (n 4))
    = test (L (ix7 (0 : Fin 1) ch (n 0) (n 1) (n 2) (n 3) (n 4))) (L (Table.lineIdx ch (n ch))) := by
  rw [lineIdx_eq]
  fin_cases ch
  all_goals
    unfold fn fn_part1
    pointwise [test]

/-- Under the precondition every entry of channel `ch` is the one on the channel's axis line, and a real number. -/
theorem entries (h : fn (F := Ideal) x L = fun _ => 1#1) (ch : Fin 5) (n : Fin 5 → Fin 9) :
    L (ix7 (0 : Fin 1) ch (n 0) (n 1) (n 2) (n 3) (n 4)) = L (Table.lineIdx ch (n ch))
      ∧ ∃ r : ℝ, L (ix7 (0 : Fin 1) ch (n 0) (n 1) (n 2) (n 3) (n 4)) = (r : EReal) :=
  of_test ((fn_at x L ch n).symm.trans (congrFun h _))

end Cert.Separable

end
-- ==== Proof.Kernel.lean ====
/-
  The kernel's result array as one function of its argument arrays: the entry of channel `c` is the constant and the
  eight ramps of that channel's axis line, at the image's entry in the same place.
-/
module

public import proofs.«01_k».proof.Proof.Table

@[expose] public section

set_option maxRecDepth 16384

noncomputable section

namespace Cert.KernelValue

open Cert.KernelIdeal Cert.KernelIdeal.Gen Cert.KernelIdeal.Value Idealize.ShloMosaic Idealize.ShloMosaic.TcCoe Idealize.SL.Sem

/-- The result as a function of the image `x` and the interpolation table `L`. -/
def result (x : Vec Ideal S4x5x512x512 .f32) (L : Vec Ideal S1x5x9x9x9x9x9 .f32) : Vec Ideal S4x5x512x512 .f32 :=
  fun i => Curve.ramps (fun j => L (Table.lineIdx (i 1) j)) (x i)

/-- The table's window sits at the origin at every grid point. -/
theorem origin0 : ∀ t : Fin cfg0.N, win0_0.index t (0 : Fin 2) = 0 ∧ win0_0.index t (1 : Fin 2) = 0 :=
  (by decide +kernel : ∀ t : Fin grid0.N, _)

/-- The image's window and the result's window are at the point's channel, and at the origin of every other axis. -/
theorem place1 : ∀ t : Fin cfg0.N, win0_1.index t (0 : Fin 4) = 0 ∧ win0_1.index t (1 : Fin 4) = (Block.chan (grid0.coords t)).val
    ∧ win0_1.index t (2 : Fin 4) = 0 ∧ win0_1.index t (3 : Fin 4) = 0 :=
  (by decide +kernel : ∀ t : Fin grid0.N, _)
theorem place2 : ∀ t : Fin cfg0.N, win0_2.index t (0 : Fin 4) = 0 ∧ win0_2.index t (1 : Fin 4) = (Block.chan (grid0.coords t)).val
    ∧ win0_2.index t (2 : Fin 4) = 0 ∧ win0_2.index t (3 : Fin 4) = 0 :=
  (by decide +kernel : ∀ t : Fin grid0.N, _)

/-- Every channel is some grid point's. -/
theorem chan_onto : ∀ a : Fin 5, ∃ t : Fin cfg0.N, Block.chan (grid0.coords t) = a :=
  (by decide +kernel : ∀ a : Fin 5, ∃ t : Fin grid0.N, Block.chan (grid0.coords t) = a)

/-- The array index of entry `j` of a block of channel `a`. -/
def at_ (a : Fin 5) (j : S4x1x512x512.Idx) : S4x5x512x512.Idx := fun k => match k with
  | ⟨0, _⟩ => (j 0 : Fin 4)
  | ⟨1, _⟩ => a
  | ⟨2, _⟩ => (j 2 : Fin 512)
  | ⟨3, _⟩ => (j 3 : Fin 512)

theorem emb0 (t : Fin cfg0.N) (j : S5x9.Idx) : ((cfg0.win 0).blk t).view.emb j = j := by
  obtain ⟨e0, e1⟩ := origin0 t
  funext k; apply Fin.ext
  match k with
  | ⟨0, _⟩ => show win0_0.index t (0 : Fin 2) * 5 + 1 * (j 0).val = (j 0).val; omega
  | ⟨1, _⟩ => show win0_0.index t (1 : Fin 2) * 9 + 1 * (j 1).val = (j 1).val; omega

theorem emb1 (t : Fin cfg0.N) (j : S4x1x512x512.Idx) :
    ((cfg0.win 1).blk t).view.emb j = at_ (Block.chan (grid0.coords t)) j := by
  obtain ⟨e0, e1, e2, e3⟩ := place1 t
  have hj : (j 1).val < 1 := (j 1).isLt
  funext k; apply Fin.ext
  match k with
  | ⟨0, _⟩ => show win0_1.index t (0 : Fin 4) * 4 + 1 * (j 0).val = (j 0).val; omega
  | ⟨1, _⟩ => show win0_1.index t (1 : Fin 4) * 1 + 1 * (j 1).val = (Block.chan (grid0.coords t)).val; omega
  | ⟨2, _⟩ => show win0_1.index t (2 : Fin 4) * 512 + 1 * (j 2).val = (j 2).val; omega
  | ⟨3, _⟩ => show win0_1.index t (3 : Fin 4) * 512 + 1 * (j 3).val = (j 3).val; omega

theorem emb2 (t : Fin cfg0.N) (j : S4x1x512x512.Idx) :
    ((cfg0.win 2).blk t).view.emb j = at_ (Block.chan (grid0.coords t)) j := by
  obtain ⟨e0, e1, e2, e3⟩ := place2 t
  have hj : (j 1).val < 1 := (j 1).isLt
  funext k; apply Fin.ext
  match k with
  | ⟨0, _⟩ => show win0_2.index t (0 : Fin 4) * 4 + 1 * (j 0).val = (j 0).val; omega
  | ⟨1, _⟩ => show win0_2.index t (1 : Fin 4) * 1 + 1 * (j 1).val = (Block.chan (grid0.coords t)).val; omega
  | ⟨2, _⟩ => show win0_2.index t (2 : Fin 4) * 512 + 1 * (j 2).val = (j 2).val; omega
  | ⟨3, _⟩ => show win0_2.index t (3 : Fin 4) * 512 + 1 * (j 3).val = (j 3).val; omega

variable (m : (ℓ : Loc nD τ sig) → Buf (Elt Ideal) ℓ) (ρ : Dev nD → PrngReg)

/-- The first window's block is the whole table. -/
theorem block0 (c : Dev nD) (t : Fin cfg0.N) :
    iblk m c 0 t = Table.table (m ((c : Thread nD τ).loc main_arg1)) := by
  rw [← Table.entry_table m c]
  funext j
  show V m c main_call0_v16 (((cfg0.win 0).blk t).view.emb j) = V m c main_call0_v16 j
  rw [emb0]

/-- The second window's block is the point's channel of the image. -/
theorem block1 (c : Dev nD) (t : Fin cfg0.N) (j : S4x1x512x512.Idx) :
    iblk m c 1 t j = m ((c : Thread nD τ).loc main_arg0) (at_ (Block.chan (grid0.coords t)) j) := by
  rw [← V_main_arg0 m c]
  show V m c main_arg0 (((cfg0.win 1).blk t).view.emb j) = _
  rw [emb1]

/-- A grid point writes its channel of `result`. -/
theorem writes (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [flushed2_A, Block.out_eq, block0]
  funext j
  show Block.stored (F := Ideal) _ _ j
    = result (m ((c : Thread nD τ).loc main_arg0)) (m ((c : Thread nD τ).loc main_arg1)) (((cfg0.win 2).blk t).view.emb j)
  rw [Block.stored_apply, block1, emb2]
  exact congrArg (fun f => Curve.ramps f _) (funext fun k => Table.table_apply _ _ k)

/-- Every index of the result is in the block of its channel's grid point. -/
theorem covered (i : S4x5x512x512.Idx) :
    ∃ t : Fin cfg0.N, (cfg0.win 2).flush t = true ∧ i ∈ ((cfg0.win 2).blk t).view.set := by
  obtain ⟨t, ht⟩ := chan_onto (i 1)
  refine ⟨t, flush0_2 t, ?_⟩
  have e : at_ (i 1) (fun k => match k with
      | ⟨0, _⟩ => (i 0 : Fin 4)
      | ⟨1, _⟩ => (0 : Fin 1)
      | ⟨2, _⟩ => (i 2 : Fin 512)
      | ⟨3, _⟩ => (i 3 : Fin 512) : S4x1x512x512.Idx) = i := funext fun k => match k with
    | ⟨0, _⟩ => rfl
    | ⟨1, _⟩ => rfl
    | ⟨2, _⟩ => rfl
    | ⟨3, _⟩ => rfl
  have h := ((cfg0.win 2).blk t).view.emb_mem_set (fun k => match k with
      | ⟨0, _⟩ => (i 0 : Fin 4)
      | ⟨1, _⟩ => (0 : Fin 1)
      | ⟨2, _⟩ => (i 2 : Fin 512)
      | ⟨3, _⟩ => (i 3 : Fin 512) : S4x1x512x512.Idx)
  rw [emb2, ht] at h
  rw [← e]
  exact h

/-- The result array after the run. -/
theorem final (c : Dev nD) : (dats m 0 c).arrAt 2 cfg0.N
    = result (m ((c : Thread nD τ).loc main_arg0)) (m ((c : Thread nD τ).loc main_arg1)) :=
  (dats m 0 c).arrAt_eq_of_cover 2 _ (fun t _ => writes m c t) covered

/-- Every run of the kernel ends with `result` of the arguments in its result array and the arguments as they were. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelValue

end
-- ==== Proof.Equation.lean ====
/-
  The equation: under the precondition the reference's sum over the corners is the kernel's sum of ramps.
-/
module

public import proofs.«01_k».proof.Proof.Reference
public import proofs.«01_k».proof.Proof.Separable
public import proofs.«01_k».proof.Proof.Kernel

@[expose] public section

set_option maxRecDepth 16384

noncomputable section

namespace Cert.Equation

open Cert.ReferenceIdeal Cert.ReferenceIdeal.Gen Cert.ReferenceIdeal.Read Idealize.ShloMosaic

variable (x : Vec Ideal S4x5x512x512 .f32) (L : Vec Ideal S1x5x9x9x9x9x9 .f32)

/-- The real numbers on channel `a`'s axis line. -/
def line (a : Fin 5) (j : Fin 9) : ℝ := (L (Table.lineIdx a j)).toReal

variable {x L}

/-- Under the precondition an entry of the table is the real number on its channel's axis line. -/
theorem entry_eq (h : Cert.Pre_separable.fn (F := Ideal) x L = fun _ => 1#1) (ch : Fin 5) (n : Fin 5 → Fin 9) :
    ReferenceValue.entry L ch n = (line L ch (n ch) : EReal) := by
  obtain ⟨e, r, hr⟩ := Separable.entries x L h ch n
  show L _ = _
  rw [line, ← e, hr, EReal.toReal_coe]

/-- Under the precondition the axis lines hold real numbers. -/
theorem line_eq (h : Cert.Pre_separable.fn (F := Ideal) x L = fun _ => 1#1) (a : Fin 5) (j : Fin 9) :
    L (Table.lineIdx a j) = (line L a j : EReal) := by
  obtain ⟨e, r, hr⟩ := Separable.entries x L h a (fun _ => j)
  rw [line, ← e, hr, EReal.toReal_coe]

/-- The values of a line at the left and at the right end of the cell that holds position `r`. -/
def ends (t : Fin 9 → ℝ) (r : ℝ) (e : Fin 2) : ℝ := if e = 0 then t (Curve.cell r).castSucc else t (Curve.cell r).succ

/-- A line's value at the grid point of a corner on axis `a`: the one at the cell's left end or its right end. -/
theorem point_eq (b : Fin 4) (h w : Fin 512) (k : Fin 32) (a : Fin 5) (t : Fin 9 → ℝ) :
    t (ReferenceValue.point x b h w k a) = ends t (Index.at_ x b h w a) (Corners.bit a k) := by
  have all : ∀ (e : Fin 2) (lt : (Curve.cell (Index.at_ x b h w a)).val + e.val < 9),
      t ⟨(Curve.cell (Index.at_ x b h w a)).val + e.val, lt⟩ = ends t (Index.at_ x b h w a) e := fun e lt => by
    fin_cases e <;> rfl
  exact all _ _

/-- A finite sum of real numbers, taken among the extended reals. -/
theorem coe_sum {ι : Type} (s : Finset ι) (f : ι → ℝ) : ∑ k ∈ s, (f k : EReal) = ((∑ k ∈ s, f k : ℝ) : EReal) := by
  classical
  induction s using Finset.induction_on with
  | empty => simp
  | insert k s hk ih => rw [Finset.sum_insert hk, Finset.sum_insert hk, ih, EReal.coe_add]

/-- The reference's result at a pixel and a channel is the kernel's. -/
theorem value_eq (hp : Cert.Pre_separable.fn (F := Ideal) x L = fun _ => 1#1) (b : Fin 4) (ch : Fin 5) (h w : Fin 512) :
    val_main_v138 (F := Ideal) x L (ix4 b ch h w) = KernelValue.result x L (ix4 b ch h w) := by
  have kernel : KernelValue.result x L (ix4 b ch h w)
      = ((Curve.lerp (line L ch) (Index.at_ x b h w ch) : ℝ) : EReal) := by
    unfold Index.at_
    rw [← Curve.ramps_eq_lerp]
    show Curve.ramps (fun j => L (Table.lineIdx ch j)) _ = _
    exact congrArg (fun f => Curve.ramps f (x (ix4 b ch h w))) (funext fun j => line_eq hp ch j)
  rw [kernel, ReferenceValue.value_at]
  simp only [entry_eq hp, point_eq, ← EReal.coe_mul]
  rw [coe_sum, Corners.sum_corners]
  rfl

/-- The reference's result array is the kernel's. -/
theorem result_eq (hp : Cert.Pre_separable.fn (F := Ideal) x L = fun _ => 1#1) :
    val_main_v138 (F := Ideal) x L = KernelValue.result x L := by
  funext i
  have e : i = ix4 (i 0) (i 1) (i 2) (i 3) := by
    funext a
    match a with
    | ⟨0, _⟩ => rfl
    | ⟨1, _⟩ => rfl
    | ⟨2, _⟩ => rfl
    | ⟨3, _⟩ => rfl
  rw [e]
  exact value_eq hp (i 0) (i 1) (i 2) (i 3)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separable
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- The reference's frame: it runs, leaves its arguments unchanged and has no semaphore to leave raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems rfl r.2⟩)
    (Cert.ReferenceIdeal.Value.run m g)

/-- Kernel and reference compute the same array from the same arguments, under the precondition. -/
theorem algebraic : Cert.algebraic_KernelIdeal_ReferenceIdeal_pre_separable (hKernelIdeal := Cert.KernelIdeal.Gen.facts)
    (hReferenceIdeal := Cert.ReferenceIdeal.Gen.facts) (hPre_separable := Cert.Pre_separable.Gen.facts) := by
  intro m g m' g' hp ha
  refine ⟨fun c => KernelValue.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), KernelValue.run m g, ?_⟩
  refine (θ_run Cert.ReferenceIdeal.defs _ _).mono (fun r h c => ⟨(h c).1.trans ?_, (h c).2⟩) (Cert.ReferenceIdeal.Value.run m' g')
  have e := Cert.ReferenceIdeal.Read.val_main_v138_eq (F := Ideal) (StableHlo.launchContents m' c)
  rw [StableHlo.launchContents_devRef, StableHlo.launchContents_devRef] at e
  refine e.symm.trans ?_
  have e0 := (ha c).1
  have e1 := (ha c).2
  exact (congrArg₂ (Cert.ReferenceIdeal.Read.val_main_v138 (F := Ideal)) e0 e1).trans (Equation.result_eq (hp c))

/-- Every claim of the certificate. -/
theorem claim : Cert.Claim :=
  ⟨Cert.Kernel.Gen.facts, Cert.KernelIdeal.Gen.facts, Cert.ReferenceIdeal.Gen.facts, Cert.Pre_separable.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, algebraic⟩

end Cert.Proof

end
